-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S4x4096 : Shape := ⟨2, ![4, 4096]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel

variable [Facts]

def fn {F : FTy → Type} [FloatOps F] (main_arg0 : IVec S4x4096 32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg0 main_v0
  let main_c_0 : IVec S_ 32 := constantI S_ 32 1000#32
  let main_v2 : IVec S4x4096 32 := broadcastInDim S4x4096 ![] bcast_S_S4x4096 main_c_0
  let main_v3 : IVec S4x4096 1 := cmpi .slt main_arg0 main_v2
  let main_v4 : IVec S4x4096 1 := andi main_v1 main_v3
  let main_c_1 : IVec S_ 1 := constantI S_ 1 1#1
  let main_v5 : IVec S_ 1 := (fun x v => Host.reduce IntOp.andi x v reducesTo_S4x4096_S_d0_1 h_S_) main_v4 main_c_1
  main_v5
-- ==== Kernel.lean ====
abbrev S4x4096 : Shape := ⟨2, ![4, 4096]⟩
abbrev S4096 : Shape := ⟨1, ![4096]⟩
abbrev S1024 : Shape := ⟨1, ![1024]⟩
abbrev S_ : Shape := ⟨0, ![]⟩
abbrev S1x4096 : Shape := ⟨2, ![1, 4096]⟩
abbrev S16 : Shape := ⟨1, ![16]⟩
abbrev S1x1024 : Shape := ⟨2, ![1, 1024]⟩
abbrev S4x4096x1 : Shape := ⟨3, ![4, 4096, 1]⟩

abbrev nBuf : Table → Nat
  | .hbm => 3
  | .local .scVector .vmem => 3
  | _ => 0

abbrev bufTy : (tb : Table) → Fin (nBuf tb) → BufTy
  | .hbm, ⟨0, _⟩ => ⟨S4x4096, .i32⟩
  | .hbm, ⟨1, _⟩ => ⟨S4x4096, .f32⟩
  | .hbm, ⟨2, _⟩ => ⟨S4x4096x1, .f32⟩
  | .local .scVector .vmem, ⟨0, _⟩ => ⟨S4096, .i32⟩
  | .local .scVector .vmem, ⟨1, _⟩ => ⟨S1024, .f32⟩
  | .local .scVector .vmem, ⟨2, _⟩ => ⟨S1024, .i32⟩
  | _, _ => ⟨S4x4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32_4 : BitVec 32 := 1#32
  let v17 : BitVec 32 := Scalar.subi v2 c1_i32_4
  let v18 : BitVec 32 := Scalar.select v16 v17 v2
  let c0_i32_27_r0 : BitVec 32 := 0#32
  ![v18.toNat, 0]
@[reducible] def k0_t1_loop : Scf.Loop 32 :=
  let c0_i32_14 : BitVec 32 := 0#32
  let c64_i32 : BitVec 32 := 64#32
  let v32 : BitVec 32 := Scalar.addi c0_i32_14 c64_i32
  let c1_i32_15 : BitVec 32 := 1#32
  ⟨c0_i32_14, v32, c1_i32_15⟩
def k0_off2 (k0_t1 : Fin k0_t1_loop.trips) : Fin 1 → Nat :=
  let c0_i32_14 : BitVec 32 := 0#32
  let c1_i32_15 : BitVec 32 := 1#32
  let arg7 : BitVec 32 := Scf.iv c0_i32_14 c1_i32_15 k0_t1
  let c16_i32 : BitVec 32 := 16#32
  let v40 : BitVec 32 := Scalar.muli arg7 c16_i32
  let v41 : Index := Scalar.indexCast v40
  ![v41.toNat]
@[reducible] def k0_t2_loop (i : grid0.Coords) : Scf.Loop 32 :=
  let c0_i32_18 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.subi v33 c0_i32_18
  let c1_i32_19 : BitVec 32 := 1#32
  let v36 : BitVec 32 := Scalar.divsi v34 c1_i32_19
  let v37 : BitVec 32 := Scalar.muli v36 c1_i32_19
  let v38 : BitVec 32 := Scalar.addi c0_i32_18 v37
  let c1_i32_20 : BitVec 32 := 1#32
  ⟨c0_i32_18, v38, c1_i32_20⟩
def k0_off3 (i : grid0.Coords) (k0_t2 : Fin (k0_t2_loop i).trips) : Fin 1 → Nat :=
  let c0_i32_18 : BitVec 32 := 0#32
  let c1_i32_20 : BitVec 32 := 1#32
  let arg7 : BitVec 32 := Scf.iv c0_i32_18 c1_i32_20 k0_t2
  let c128_i32 : BitVec 32 := 128#32
  let v40 : BitVec 32 := Scalar.muli arg7 c128_i32
  let c0_i32_27 : BitVec 32 := 0#32
  let v41 : BitVec 32 := Scalar.addi v40 c0_i32_27
  let v42 : Index := Scalar.indexCast v41
  ![v42.toNat]

def k0_chk1 (i : grid0.Coords) (k0_t2 : Fin (k0_t2_loop i).trips) (v43 : IVec S16 32) : Prop :=
  (∀ a x, ((![v43] : Fin 1 → IVec S16 32) a x).toNat < S1024.size a)
theorem k0_idx1_inb : ∀ (i : grid0.Coords) (k0_t2 : Fin (k0_t2_loop i).trips) (v43 : IVec S16 32) (k0_hw1 : k0_chk1 i k0_t2 v43), ∀ a x, ((![v43] : Fin 1 → IVec S16 32) a x).toNat < S1024.size a := fun i k0_t2 v43 k0_hw1 => k0_hw1
def k0_off4 (i : grid0.Coords) (k0_t2 : Fin (k0_t2_loop i).trips) : Fin 1 → Nat :=
  let c0_i32_18 : BitVec 32 := 0#32
  let c1_i32_20 : BitVec 32 := 1#32
  let arg7 : BitVec 32 := Scf.iv c0_i32_18 c1_i32_20 k0_t2
  let c128_i32_28 : BitVec 32 := 128#32
  let v44 : BitVec 32 := Scalar.muli arg7 c128_i32_28
  let c16_i32 : BitVec 32 := 16#32
  let v45 : BitVec 32 := Scalar.addi v44 c16_i32
  let v46 : Index := Scalar.indexCast v45
  ![v46.toNat]

def k0_chk2 (i : grid0.Coords) (k0_t2 : Fin (k0_t2_loop i).trips) (v47 : IVec S16 32) : Prop :=
  (∀ a x, ((![v47] : Fin 1 → IVec S16 32) a x).toNat < S1024.size a)
theorem k0_idx2_inb : ∀ (i : grid0.Coords) (k0_t2 : Fin (k0_t2_loop i).trips) (v47 : IVec S16 32) (k0_hw2 : k0_chk2 i k0_t2 v47), ∀ a x, ((![v47] : Fin 1 → IVec S16 32) a x).toNat < S1024.size a := fun i k0_t2 v47 k0_hw2 => k0_hw2
def k0_off5 (i : grid0.Coords) (k0_t2 : Fin (k0_t2_loop i).trips) : Fin 1 → Nat :=
  let c0_i32_18 : BitVec 32 := 0#32
  let c1_i32_20 : BitVec 32 := 1#32
  let arg7 : BitVec 32 := Scf.iv c0_i32_18 c1_i32_20 k0_t2
  let c128_i32_29 : BitVec 32 := 128#32
  let v48 : BitVec 32 := Scalar.muli arg7 c128_i32_29
  let c32_i32 : BitVec 32 := 32#32
  let v49 : BitVec 32 := Scalar.addi v48 c32_i32
  let v50 : Index := Scalar.indexCast v49
  ![v50.toNat]

def k0_chk3 (i : grid0.Coords) (k0_t2 : Fin (k0_t2_loop i).trips) (v51 : IVec S16 32) : Prop :=
  (∀ a x, ((![v51] : Fin 1 → IVec S16 32) a x).toNat < S1024.size a)
theorem k0_idx3_inb : ∀ (i : grid0.Coords) (k0_t2 : Fin (k0_t2_loop i).trips) (v51 : IVec S16 32) (k0_hw3 : k0_chk3 i k0_t2 v51), ∀ a x, ((![v51] : Fin 1 → IVec S16 32) a x).toNat < S1024.size a := fun i k0_t2 v51 k0_hw3 => k0_hw3
def k0_off6 (i : grid0.Coords) (k0_t2 : Fin (k0_t2_loop i).trips) : Fin 1 → Nat :=
  let c0_i32_18 : BitVec 32 := 0#32
  let c1_i32_20 : BitVec 32 := 1#32
  let arg7 : BitVec 32 := Scf.iv c0_i32_18 c1_i32_20 k0_t2
  let c128_i32_30 : BitVec 32 := 128#32
  let v52 : BitVec 32 := Scalar.muli arg7 c128_i32_30
  let c48_i32 : BitVec 32 := 48#32
  let v53 : BitVec 32 := Scalar.addi v52 c48_i32
  let v54 : Index := Scalar.indexCast v53
  ![v54.toNat]

def k0_chk4 (i : grid0.Coords) (k0_t2 : Fin (k0_t2_loop i).trips) (v55 : IVec S16 32) : Prop :=
  (∀ a x, ((![v55] : Fin 1 → IVec S16 32) a x).toNat < S1024.size a)
theorem k0_idx4_inb : ∀ (i : grid0.Coords) (k0_t2 : Fin (k0_t2_loop i).trips) (v55 : IVec S16 32) (k0_hw4 : k0_chk4 i k0_t2 v55), ∀ a x, ((![v55] : Fin 1 → IVec S16 32) a x).toNat < S1024.size a := fun i k0_t2 v55 k0_hw4 => k0_hw4
def k0_off7 (i : grid0.Coords) (k0_t2 : Fin (k0_t2_loop i).trips) : Fin 1 → Nat :=
  let c0_i32_18 : BitVec 32 := 0#32
  let c1_i32_20 : BitVec 32 := 1#32
  let arg7 : BitVec 32 := Scf.iv c0_i32_18 c1_i32_20 k0_t2
  let c128_i32_31 : BitVec 32 := 128#32
  let v56 : BitVec 32 := Scalar.muli arg7 c128_i32_31
  let c64_i32_32 : BitVec 32 := 64#32
  let v57 : BitVec 32 := Scalar.addi v56 c64_i32_32
  let v58 : Index := Scalar.indexCast v57
  ![v58.toNat]

def k0_chk5 (i : grid0.Coords) (k0_t2 : Fin (k0_t2_loop i).trips) (v59 : IVec S16 32) : Prop :=
  (∀ a x, ((![v59] : Fin 1 → IVec S16 32) a x).toNat < S1024.size a)
theorem k0_idx5_inb : ∀ (i : grid0.Coords) (k0_t2 : Fin (k0_t2_loop i).trips) (v59 : IVec S16 32) (k0_hw5 : k0_chk5 i k0_t2 v59), ∀ a x, ((![v59] : Fin 1 → IVec S16 32) a x).toNat < S1024.size a := fun i k0_t2 v59 k0_hw5 => k0_hw5
def k0_off8 (i : grid0.Coords) (k0_t2 : Fin (k0_t2_loop i).trips) : Fin 1 → Nat :=
  let c0_i32_18 : BitVec 32 := 0#32
  let c1_i32_20 : BitVec 32 := 1#32
  let arg7 : BitVec 32 := Scf.iv c0_i32_18 c1_i32_20 k0_t2
  let c128_i32_33 : BitVec 32 := 128#32
  let v60 : BitVec 32 := Scalar.muli arg7 c128_i32_33
  let c80_i32 : BitVec 32 := 80#32
  let v61 : BitVec 32 := Scalar.addi v60 c80_i32
  let v62 : Index := Scalar.indexCast v61
  ![v62.toNat]

def k0_chk6 (i : grid0.Coords) (k0_t2 : Fin (k0_t2_loop i).trips) (v63 : IVec S16 32) : Prop :=
  (∀ a x, ((![v63] : Fin 1 → IVec S16 32) a x).toNat < S1024.size a)
theorem k0_idx6_inb : ∀ (i : grid0.Coords) (k0_t2 : Fin (k0_t2_loop i).trips) (v63 : IVec S16 32) (k0_hw6 : k0_chk6 i k0_t2 v63), ∀ a x, ((![v63] : Fin 1 → IVec S16 32) a x).toNat < S1024.size a := fun i k0_t2 v63 k0_hw6 => k0_hw6
def k0_off9 (i : grid0.Coords) (k0_t2 : Fin (k0_t2_loop i).trips) : Fin 1 → Nat :=
  let c0_i32_18 : BitVec 32 := 0#32
  let c1_i32_20 : BitVec 32 := 1#32
  let arg7 : BitVec 32 := Scf.iv c0_i32_18 c1_i32_20 k0_t2
  let c128_i32_34 : BitVec 32 := 128#32
  let v64 : BitVec 32 := Scalar.muli arg7 c128_i32_34
  let c96_i32 : BitVec 32 := 96#32
  let v65 : BitVec 32 := Scalar.addi v64 c96_i32
  let v66 : Index := Scalar.indexCast v65
  ![v66.toNat]

def k0_chk7 (i : grid0.Coords) (k0_t2 : Fin (k0_t2_loop i).trips) (v67 : IVec S16 32) : Prop :=
  (∀ a x, ((![v67] : Fin 1 → IVec S16 32) a x).toNat < S1024.size a)
theorem k0_idx7_inb : ∀ (i : grid0.Coords) (k0_t2 : Fin (k0_t2_loop i).trips) (v67 : IVec S16 32) (k0_hw7 : k0_chk7 i k0_t2 v67), ∀ a x, ((![v67] : Fin 1 → IVec S16 32) a x).toNat < S1024.size a := fun i k0_t2 v67 k0_hw7 => k0_hw7
def k0_off10 (i : grid0.Coords) (k0_t2 : Fin (k0_t2_loop i).trips) : Fin 1 → Nat :=
  let c0_i32_18 : BitVec 32 := 0#32
  let c1_i32_20 : BitVec 32 := 1#32
  let arg7 : BitVec 32 := Scf.iv c0_i32_18 c1_i32_20 k0_t2
  let c128_i32_35 : BitVec 32 := 128#32
  let v68 : BitVec 32 := Scalar.muli arg7 c128_i32_35
  let c112_i32 : BitVec 32 := 112#32
  let v69 : BitVec 32 := Scalar.addi v68 c112_i32
  let v70 : Index := Scalar.indexCast v69
  ![v70.toNat]

def k0_chk8 (i : grid0.Coords) (k0_t2 : Fin (k0_t2_loop i).trips) (v71 : IVec S16 32) : Prop :=
  (∀ a x, ((![v71] : Fin 1 → IVec S16 32) a x).toNat < S1024.size a)
theorem k0_idx8_inb : ∀ (i : grid0.Coords) (k0_t2 : Fin (k0_t2_loop i).trips) (v71 : IVec S16 32) (k0_hw8 : k0_chk8 i k0_t2 v71), ∀ a x, ((![v71] : Fin 1 → IVec S16 32) a x).toNat < S1024.size a := fun i k0_t2 v71 k0_hw8 => k0_hw8
@[reducible] def k0_t3_loop (i : grid0.Coords) : Scf.Loop 32 :=
  let c0_i32_18 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.subi v33 c0_i32_18
  let c1_i32_19 : BitVec 32 := 1#32
  let v36 : BitVec 32 := Scalar.divsi v34 c1_i32_19
  let v37 : BitVec 32 := Scalar.muli v36 c1_i32_19
  let v38 : BitVec 32 := Scalar.addi c0_i32_18 v37
  let v35 : BitVec 32 := Scalar.addi c0_i32_18 v34
  let c1_i32_21 : BitVec 32 := 1#32
  ⟨v38, v35, c1_i32_21⟩
def k0_off11 (i : grid0.Coords) (k0_t3 : Fin (k0_t3_loop i).trips) : Fin 1 → Nat :=
  let c0_i32_18 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.subi v33 c0_i32_18
  let c1_i32_19 : BitVec 32 := 1#32
  let v36 : BitVec 32 := Scalar.divsi v34 c1_i32_19
  let v37 : BitVec 32 := Scalar.muli v36 c1_i32_19
  let v38 : BitVec 32 := Scalar.addi c0_i32_18 v37
  let c1_i32_21 : BitVec 32 := 1#32
  let arg7 : BitVec 32 := Scf.iv v38 c1_i32_21 k0_t3
  let c128_i32 : BitVec 32 := 128#32
  let v40 : BitVec 32 := Scalar.muli arg7 c128_i32
  let c0_i32_27 : BitVec 32 := 0#32
  let v41 : BitVec 32 := Scalar.addi v40 c0_i32_27
  let v42 : Index := Scalar.indexCast v41
  ![v42.toNat]

def k0_chk9 (i : grid0.Coords) (k0_t3 : Fin (k0_t3_loop i).trips) (v43 : IVec S16 32) : Prop :=
  (∀ a x, ((![v43] : Fin 1 → IVec S16 32) a x).toNat < S1024.size a)
theorem k0_idx9_inb : ∀ (i : grid0.Coords) (k0_t3 : Fin (k0_t3_loop i).trips) (v43 : IVec S16 32) (k0_hw9 : k0_chk9 i k0_t3 v43), ∀ a x, ((![v43] : Fin 1 → IVec S16 32) a x).toNat < S1024.size a := fun i k0_t3 v43 k0_hw9 => k0_hw9
def k0_off12 (i : grid0.Coords) (k0_t3 : Fin (k0_t3_loop i).trips) : Fin 1 → Nat :=
  let c0_i32_18 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.subi v33 c0_i32_18
  let c1_i32_19 : BitVec 32 := 1#32
  let v36 : BitVec 32 := Scalar.divsi v34 c1_i32_19
  let v37 : BitVec 32 := Scalar.muli v36 c1_i32_19
  let v38 : BitVec 32 := Scalar.addi c0_i32_18 v37
  let c1_i32_21 : BitVec 32 := 1#32
  let arg7 : BitVec 32 := Scf.iv v38 c1_i32_21 k0_t3
  let c128_i32_28 : BitVec 32 := 128#32
  let v44 : BitVec 32 := Scalar.muli arg7 c128_i32_28
  let c16_i32 : BitVec 32 := 16#32
  let v45 : BitVec 32 := Scalar.addi v44 c16_i32
  let v46 : Index := Scalar.indexCast v45
  ![v46.toNat]

def k0_chk10 (i : grid0.Coords) (k0_t3 : Fin (k0_t3_loop i).trips) (v47 : IVec S16 32) : Prop :=
  (∀ a x, ((![v47] : Fin 1 → IVec S16 32) a x).toNat < S1024.size a)
theorem k0_idx10_inb : ∀ (i : grid0.Coords) (k0_t3 : Fin (k0_t3_loop i).trips) (v47 : IVec S16 32) (k0_hw10 : k0_chk10 i k0_t3 v47), ∀ a x, ((![v47] : Fin 1 → IVec S16 32) a x).toNat < S1024.size a := fun i k0_t3 v47 k0_hw10 => k0_hw10
def k0_off13 (i : grid0.Coords) (k0_t3 : Fin (k0_t3_loop i).trips) : Fin 1 → Nat :=
  let c0_i32_18 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.subi v33 c0_i32_18
  let c1_i32_19 : BitVec 32 := 1#32
  let v36 : BitVec 32 := Scalar.divsi v34 c1_i32_19
  let v37 : BitVec 32 := Scalar.muli v36 c1_i32_19
  let v38 : BitVec 32 := Scalar.addi c0_i32_18 v37
  let c1_i32_21 : BitVec 32 := 1#32
  let arg7 : BitVec 32 := Scf.iv v38 c1_i32_21 k0_t3
  let c128_i32_29 : BitVec 32 := 128#32
  let v48 : BitVec 32 := Scalar.muli arg7 c128_i32_29
  let c32_i32 : BitVec 32 := 32#32
  let v49 : BitVec 32 := Scalar.addi v48 c32_i32
  let v50 : Index := Scalar.indexCast v49
  ![v50.toNat]

def k0_chk11 (i : grid0.Coords) (k0_t3 : Fin (k0_t3_loop i).trips) (v51 : IVec S16 32) : Prop :=
  (∀ a x, ((![v51] : Fin 1 → IVec S16 32) a x).toNat < S1024.size a)
theorem k0_idx11_inb : ∀ (i : grid0.Coords) (k0_t3 : Fin (k0_t3_loop i).trips) (v51 : IVec S16 32) (k0_hw11 : k0_chk11 i k0_t3 v51), ∀ a x, ((![v51] : Fin 1 → IVec S16 32) a x).toNat < S1024.size a := fun i k0_t3 v51 k0_hw11 => k0_hw11
def k0_off14 (i : grid0.Coords) (k0_t3 : Fin (k0_t3_loop i).trips) : Fin 1 → Nat :=
  let c0_i32_18 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.subi v33 c0_i32_18
  let c1_i32_19 : BitVec 32 := 1#32
  let v36 : BitVec 32 := Scalar.divsi v34 c1_i32_19
  let v37 : BitVec 32 := Scalar.muli v36 c1_i32_19
  let v38 : BitVec 32 := Scalar.addi c0_i32_18 v37
  let c1_i32_21 : BitVec 32 := 1#32
  let arg7 : BitVec 32 := Scf.iv v38 c1_i32_21 k0_t3
  let c128_i32_30 : BitVec 32 := 128#32
  let v52 : BitVec 32 := Scalar.muli arg7 c128_i32_30
  let c48_i32 : BitVec 32 := 48#32
  let v53 : BitVec 32 := Scalar.addi v52 c48_i32
  let v54 : Index := Scalar.indexCast v53
  ![v54.toNat]

def k0_chk12 (i : grid0.Coords) (k0_t3 : Fin (k0_t3_loop i).trips) (v55 : IVec S16 32) : Prop :=
  (∀ a x, ((![v55] : Fin 1 → IVec S16 32) a x).toNat < S1024.size a)
theorem k0_idx12_inb : ∀ (i : grid0.Coords) (k0_t3 : Fin (k0_t3_loop i).trips) (v55 : IVec S16 32) (k0_hw12 : k0_chk12 i k0_t3 v55), ∀ a x, ((![v55] : Fin 1 → IVec S16 32) a x).toNat < S1024.size a := fun i k0_t3 v55 k0_hw12 => k0_hw12
def k0_off15 (i : grid0.Coords) (k0_t3 : Fin (k0_t3_loop i).trips) : Fin 1 → Nat :=
  let c0_i32_18 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.subi v33 c0_i32_18
  let c1_i32_19 : BitVec 32 := 1#32
  let v36 : BitVec 32 := Scalar.divsi v34 c1_i32_19
  let v37 : BitVec 32 := Scalar.muli v36 c1_i32_19
  let v38 : BitVec 32 := Scalar.addi c0_i32_18 v37
  let c1_i32_21 : BitVec 32 := 1#32
  let arg7 : BitVec 32 := Scf.iv v38 c1_i32_21 k0_t3
  let c128_i32_31 : BitVec 32 := 128#32
  let v56 : BitVec 32 := Scalar.muli arg7 c128_i32_31
  let c64_i32_32 : BitVec 32 := 64#32
  let v57 : BitVec 32 := Scalar.addi v56 c64_i32_32
  let v58 : Index := Scalar.indexCast v57
  ![v58.toNat]

def k0_chk13 (i : grid0.Coords) (k0_t3 : Fin (k0_t3_loop i).trips) (v59 : IVec S16 32) : Prop :=
  (∀ a x, ((![v59] : Fin 1 → IVec S16 32) a x).toNat < S1024.size a)
theorem k0_idx13_inb : ∀ (i : grid0.Coords) (k0_t3 : Fin (k0_t3_loop i).trips) (v59 : IVec S16 32) (k0_hw13 : k0_chk13 i k0_t3 v59), ∀ a x, ((![v59] : Fin 1 → IVec S16 32) a x).toNat < S1024.size a := fun i k0_t3 v59 k0_hw13 => k0_hw13
def k0_off16 (i : grid0.Coords) (k0_t3 : Fin (k0_t3_loop i).trips) : Fin 1 → Nat :=
  let c0_i32_18 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.subi v33 c0_i32_18
  let c1_i32_19 : BitVec 32 := 1#32
  let v36 : BitVec 32 := Scalar.divsi v34 c1_i32_19
  let v37 : BitVec 32 := Scalar.muli v36 c1_i32_19
  let v38 : BitVec 32 := Scalar.addi c0_i32_18 v37
  let c1_i32_21 : BitVec 32 := 1#32
  let arg7 : BitVec 32 := Scf.iv v38 c1_i32_21 k0_t3
  let c128_i32_33 : BitVec 32 := 128#32
  let v60 : BitVec 32 := Scalar.muli arg7 c128_i32_33
  let c80_i32 : BitVec 32 := 80#32
  let v61 : BitVec 32 := Scalar.addi v60 c80_i32
  let v62 : Index := Scalar.indexCast v61
  ![v62.toNat]

def k0_chk14 (i : grid0.Coords) (k0_t3 : Fin (k0_t3_loop i).trips) (v63 : IVec S16 32) : Prop :=
  (∀ a x, ((![v63] : Fin 1 → IVec S16 32) a x).toNat < S1024.size a)
theorem k0_idx14_inb : ∀ (i : grid0.Coords) (k0_t3 : Fin (k0_t3_loop i).trips) (v63 : IVec S16 32) (k0_hw14 : k0_chk14 i k0_t3 v63), ∀ a x, ((![v63] : Fin 1 → IVec S16 32) a x).toNat < S1024.size a := fun i k0_t3 v63 k0_hw14 => k0_hw14
def k0_off17 (i : grid0.Coords) (k0_t3 : Fin (k0_t3_loop i).trips) : Fin 1 → Nat :=
  let c0_i32_18 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.subi v33 c0_i32_18
  let c1_i32_19 : BitVec 32 := 1#32
  let v36 : BitVec 32 := Scalar.divsi v34 c1_i32_19
  let v37 : BitVec 32 := Scalar.muli v36 c1_i32_19
  let v38 : BitVec 32 := Scalar.addi c0_i32_18 v37
  let c1_i32_21 : BitVec 32 := 1#32
  let arg7 : BitVec 32 := Scf.iv v38 c1_i32_21 k0_t3
  let c128_i32_34 : BitVec 32 := 128#32
  let v64 : BitVec 32 := Scalar.muli arg7 c128_i32_34
  let c96_i32 : BitVec 32 := 96#32
  let v65 : BitVec 32 := Scalar.addi v64 c96_i32
  let v66 : Index := Scalar.indexCast v65
  ![v66.toNat]

def k0_chk15 (i : grid0.Coords) (k0_t3 : Fin (k0_t3_loop i).trips) (v67 : IVec S16 32) : Prop :=
  (∀ a x, ((![v67] : Fin 1 → IVec S16 32) a x).toNat < S1024.size a)
theorem k0_idx15_inb : ∀ (i : grid0.Coords) (k0_t3 : Fin (k0_t3_loop i).trips) (v67 : IVec S16 32) (k0_hw15 : k0_chk15 i k0_t3 v67), ∀ a x, ((![v67] : Fin 1 → IVec S16 32) a x).toNat < S1024.size a := fun i k0_t3 v67 k0_hw15 => k0_hw15
def k0_off18 (i : grid0.Coords) (k0_t3 : Fin (k0_t3_loop i).trips) : Fin 1 → Nat :=
  let c0_i32_18 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.subi v33 c0_i32_18
  let c1_i32_19 : BitVec 32 := 1#32
  let v36 : BitVec 32 := Scalar.divsi v34 c1_i32_19
  let v37 : BitVec 32 := Scalar.muli v36 c1_i32_19
  let v38 : BitVec 32 := Scalar.addi c0_i32_18 v37
  let c1_i32_21 : BitVec 32 := 1#32
  let arg7 : BitVec 32 := Scf.iv v38 c1_i32_21 k0_t3
  let c128_i32_35 : BitVec 32 := 128#32
  let v68 : BitVec 32 := Scalar.muli arg7 c128_i32_35
  let c112_i32 : BitVec 32 := 112#32
  let v69 : BitVec 32 := Scalar.addi v68 c112_i32
  let v70 : Index := Scalar.indexCast v69
  ![v70.toNat]

def k0_chk16 (i : grid0.Coords) (k0_t3 : Fin (k0_t3_loop i).trips) (v71 : IVec S16 32) : Prop :=
  (∀ a x, ((![v71] : Fin 1 → IVec S16 32) a x).toNat < S1024.size a)
theorem k0_idx16_inb : ∀ (i : grid0.Coords) (k0_t3 : Fin (k0_t3_loop i).trips) (v71 : IVec S16 32) (k0_hw16 : k0_chk16 i k0_t3 v71), ∀ a x, ((![v71] : Fin 1 → IVec S16 32) a x).toNat < S1024.size a := fun i k0_t3 v71 k0_hw16 => k0_hw16
@[reducible] def k0_t4_loop : Scf.Loop 32 :=
  let c0_i32_23 : BitVec 32 := 0#32
  let c64_i32_24 : BitVec 32 := 64#32
  let v39 : BitVec 32 := Scalar.addi c0_i32_23 c64_i32_24
  let c1_i32_25 : BitVec 32 := 1#32
  ⟨c0_i32_23, v39, c1_i32_25⟩
def k0_off19 (i : grid0.Coords) (k0_t4 : Fin k0_t4_loop.trips) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c0_i32_23 : BitVec 32 := 0#32
  let c1_i32_25 : BitVec 32 := 1#32
  let arg7 : BitVec 32 := Scf.iv c0_i32_23 c1_i32_25 k0_t4
  let c16_i32 : BitVec 32 := 16#32
  let v40 : BitVec 32 := Scalar.muli arg7 c16_i32
  let v41 : BitVec 32 := Scalar.addi v29 v40
  let v42 : Index := Scalar.indexCast v41
  ![v42.toNat]
def k0_off20 (k0_t4 : Fin k0_t4_loop.trips) : Fin 1 → Nat :=
  let c0_i32_23 : BitVec 32 := 0#32
  let c1_i32_25 : BitVec 32 := 1#32
  let arg7 : BitVec 32 := Scf.iv c0_i32_23 c1_i32_25 k0_t4
  let c16_i32_27 : BitVec 32 := 16#32
  let v48 : BitVec 32 := Scalar.muli arg7 c16_i32_27
  let v49 : Index := Scalar.indexCast v48
  ![v49.toNat]

def k0_chk17 (v43 : IVec S16 32) : Prop :=
  (∀ a x, ((![v43] : Fin 1 → IVec S16 32) a x).toNat < S1024.size a) ∧
  (∀ a x, ((![v43] : Fin 1 → IVec S16 32) a x).toNat < S1024.size a)
theorem k0_idx17_inb : ∀ (v43 : IVec S16 32) (k0_hw17 : k0_chk17 v43), ∀ a x, ((![v43] : Fin 1 → IVec S16 32) a x).toNat < S1024.size a := fun v43 k0_hw17 => k0_hw17.1
theorem k0_idx18_inb : ∀ (v43 : IVec S16 32) (k0_hw17 : k0_chk17 v43), ∀ a x, ((![v43] : Fin 1 → IVec S16 32) a x).toNat < S1024.size a := fun v43 k0_hw17 => k0_hw17.2
def k0_off21 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  ![v18.toNat, v29.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096 : Shape := ⟨2, ![4, 4096]⟩
abbrev S4x4096x1 : Shape := ⟨3, ![4, 4096, 1]⟩
abbrev S1x1x1000 : Shape := ⟨3, ![1, 1, 1000]⟩
abbrev S4x4096x1000 : Shape := ⟨3, ![4, 4096, 1000]⟩
abbrev S_ : Shape := ⟨0, ![]⟩
abbrev S4x4096x1x1 : Shape := ⟨4, ![4, 4096, 1, 1]⟩
abbrev S1 : Shape := ⟨1, ![1]⟩
abbrev S1x1x1x1 : Shape := ⟨4, ![1, 1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S4x4096x1, .i32⟩
  | .hbm, ⟨2, _⟩ => ⟨S1x1x1000, .i32⟩
  | .hbm, ⟨3, _⟩ => ⟨S4x4096x1000, .i32⟩
  | .hbm, ⟨4, _⟩ => ⟨S4x4096x1000, .i32⟩
  | .hbm, ⟨5, _⟩ => ⟨S4x4096x1000, .i1⟩
  | .hbm, ⟨6, _⟩ => ⟨S4x4096x1000, .f32⟩
  | .hbm, ⟨7, _⟩ => ⟨S_, .f32⟩
  | .hbm, ⟨8, _⟩ => ⟨S_, .f32⟩
  | .hbm, ⟨9, _⟩ => ⟨S4x4096x1000, .f32⟩
  | .hbm, ⟨10, _⟩ => ⟨S4x4096x1, .i32⟩
  | .hbm, ⟨11, _⟩ => ⟨S_, .i32⟩
  | .hbm, ⟨12, _⟩ => ⟨S4x4096x1, .i32⟩
  | .hbm, ⟨13, _⟩ => ⟨S4x4096x1, .i1⟩
  | .hbm, ⟨14, _⟩ => ⟨S_, .i32⟩
  | .hbm, ⟨15, _⟩ => ⟨S4x4096x1, .i32⟩
  | .hbm, ⟨16, _⟩ => ⟨S4x4096x1, .i32⟩
  | .hbm, ⟨17, _⟩ => ⟨S4x4096x1, .i32⟩
  | .hbm, ⟨18, _⟩ => ⟨S4x4096x1x1, .i32⟩
  | .hbm, ⟨19, _⟩ => ⟨S1, .i32⟩
  | .hbm, ⟨20, _⟩ => ⟨S_, .i32⟩
  | .hbm, ⟨21, _⟩ => ⟨S4x4096x1x1, .i32⟩
  | .hbm, ⟨22, _⟩ => ⟨S4x4096x1x1, .i1⟩
  | .hbm, ⟨23, _⟩ => ⟨S1x1x1x1, .i32⟩
  | .hbm, ⟨24, _⟩ => ⟨S4x4096x1x1, .i32⟩
  | .hbm, ⟨25, _⟩ => ⟨S4x4096x1x1, .i1⟩
  | .hbm, ⟨26, _⟩ => ⟨S4x4096x1x1, .i1⟩
  | .hbm, ⟨27, _⟩ => ⟨S_, .i1⟩
  | .hbm, ⟨28, _⟩ => ⟨S4x4096x1, .i1⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩
abbrev main_call1_call0_cst : Ref sig .tc := ⟨.hbm, 7, rfl⟩
abbrev main_call1_call0_v0 : Ref sig .tc := ⟨.hbm, 8, rfl⟩
abbrev main_v1 : Ref sig .tc := ⟨.hbm, 9, rfl⟩
abbrev main_v2 : Ref sig .tc := ⟨.hbm, 10, rfl⟩
abbrev main_call2_c : Ref sig .tc := ⟨.hbm, 11, rfl⟩
abbrev main_call2_v0 : Ref sig .tc := ⟨.hbm, 12, rfl⟩
abbrev main_call2_v1 : Ref sig .tc := ⟨.hbm, 13, rfl⟩
abbrev main_call2_c_0 : Ref sig .tc := ⟨.hbm, 14, rfl⟩
abbrev main_call2_v2 : Ref sig .tc := ⟨.hbm, 15, rfl⟩
abbrev main_call2_v3 : Ref sig .tc := ⟨.hbm, 16, rfl⟩
abbrev main_call2_v4 : Ref sig .tc := ⟨.hbm, 17, rfl⟩
abbrev main_call2_v5 : Ref sig .tc := ⟨.hbm, 18, rfl⟩
abbrev main_call2_c_1 : Ref sig .tc := ⟨.hbm, 19, rfl⟩
abbrev main_call2_c_2 : Ref sig .tc := ⟨.hbm, 20, rfl⟩
abbrev main_call2_v6 : Ref sig .tc := ⟨.hbm, 21, rfl⟩
abbrev main_call2_v7 : Ref sig .tc := ⟨.hbm, 22, rfl⟩
abbrev main_call2_v8 : Ref sig .tc := ⟨.hbm, 23, rfl⟩
abbrev main_call2_v9 : Ref sig .tc := ⟨.hbm, 24, rfl⟩
abbrev main_call2_v10 : Ref sig .tc := ⟨.hbm, 25, rfl⟩
abbrev main_call2_v11 : Ref sig .tc := ⟨.hbm, 26, rfl⟩
abbrev main_call2_c_3 : Ref sig .tc := ⟨.hbm, 27, rfl⟩
abbrev main_call2_v12 : Ref sig .tc := ⟨.hbm, 28, rfl⟩
abbrev main_call2_v13 : Ref sig .tc := ⟨.hbm, 29, rfl⟩
abbrev main_call2_cst : Ref sig .tc := ⟨.hbm, 30, rfl⟩
abbrev main_call2_v14 : Ref sig .tc := ⟨.hbm, 31, rfl⟩
abbrev main_v3 : Ref sig .tc := ⟨.hbm, 32, rfl⟩

abbrev nD : Nat := 1
abbrev τ : Topo := Topo.v7x

variable {F : FTy → Type} [FloatOps F]
-- ==== Proof.Counts.lean ====
/-
  How often a token occurs in a prefix of a row, and what the kernel's vector operations do to such counts: the
  histogram's zero, the scatter-add of ones, the gathered counts plus the running counts inside a vector; the closed
  forms of the kernel's offsets and trip counts.
-/
module

public import proofs.«01_k».proof.Proof.Gen.KernelIdeal
public import proofs.«01_k».proof.Proof.Gen.KernelIdeal.Skeleton
public import Idealize.ShloMosaic.Lib.ValueIdxCore

@[expose] public section

noncomputable section

namespace Cert.Proof.Counts

open Cert.KernelIdeal Cert.KernelIdeal.Gen
open Idealize.ShloMosaic

/-! ## Counting in a prefix -/

/-- Among the first `n` tokens of a row, how many are `v`. -/
def cnt (tok : ℕ → BitVec 32) (n : ℕ) (v : BitVec 32) : ℕ := ∑ p ∈ Finset.range n, if tok p = v then 1 else 0

/-- No token occurs in the empty prefix. -/
theorem cnt_zero (tok : ℕ → BitVec 32) (v : BitVec 32) : cnt tok 0 v = 0 := rfl

/-- One token more counts one more where it is `v`. -/
theorem cnt_succ (tok : ℕ → BitVec 32) (n : ℕ) (v : BitVec 32) : cnt tok (n + 1) v = cnt tok n v + if tok n = v then 1 else 0 :=
  Finset.sum_range_succ _ _

/-- A longer prefix is the shorter one's count and the count in what follows it. -/
theorem cnt_add (tok : ℕ → BitVec 32) (n k : ℕ) (v : BitVec 32) : cnt tok (n + k) v = cnt tok n v + cnt (fun p => tok (n + p)) k v :=
  Finset.sum_range_add _ _ _

/-- A prefix holds no token more often than it has tokens. -/
theorem cnt_le (tok : ℕ → BitVec 32) (n : ℕ) (v : BitVec 32) : cnt tok n v ≤ n := by
  induction n with
  | zero => exact Nat.le_refl _
  | succ n ih => rw [cnt_succ]; split <;> omega

/-! ## The histogram -/

/-- The histogram of the first `n` tokens: entry `j` is how often token `j` occurs among them, as a 32-bit word. -/
def table (tok : ℕ → BitVec 32) (n : ℕ) : S1024.Idx → BitVec 32 := fun j => BitVec.ofNat 32 (cnt tok n (BitVec.ofNat 32 (j 0).val))

/-- Lane `k` of a vector of sixteen. -/
abbrev lane (k : Fin 16) : S16.Idx := Shape.ofLane (d := ![16]) k

/-- Every lane index is `lane` of its one coordinate. -/
theorem lane_eq (x : S16.Idx) : lane (x 0) = x := by
  funext a; obtain rfl : a = 0 := Subsingleton.elim _ _; rfl

/-- The vector `v` holds the sixteen tokens from position `n` on. -/
def Holds (tok : ℕ → BitVec 32) (n : ℕ) (v : IVec S16 32) : Prop := ∀ k : Fin 16, v (lane k) = tok (n + k.val)

/-- Adding one at the sixteen tokens from position `n` on turns the histogram of the first `n` tokens into that of the
    first `n + 16`: lanes that name one entry each add their one. -/
theorem scatter_table {F : FTy → Type} [FloatOps F] (tok : ℕ → BitVec 32) (n : ℕ) (v : IVec S16 32) (hv : Holds tok n v)
    (h : ∀ a x, ((![v] : Fin 1 → IVec S16 32) a x).toNat < S1024.size a) :
    storeIdx (F := F) (s := S1024) (e := .i32) (d := ![16]) (table tok n) ![v] k0_pay2 (fun _ => 1#1) true h = table tok (n + 16) := by
  have key : ∀ K : ℕ, K ≤ 16 →
      ((List.finRange 16).take K).foldl (fun (g : Vec F S1024 .i32) (k : Fin 16) =>
        (fun j => if (∀ a, (j a).val = (idxAt ![v] h (lane k) a).val)
          then Elt.idxAdd .i32 (g (idxAt ![v] h (lane k))) (k0_pay2 (lane k)) else g j)) (table tok n) = table tok (n + K) := by
    intro K
    induction K with
    | zero => intro _; rfl
    | succ K ih =>
      intro hK
      rw [List.take_add_one, List.foldl_append, ih (by omega)]
      have hg : (List.finRange 16)[K]? = some ⟨K, by omega⟩ := by
        rw [List.getElem?_eq_getElem (by rw [List.length_finRange]; omega)]; simp
      rw [hg]
      simp only [Option.toList_some, List.foldl_cons, List.foldl_nil]
      funext j
      have hval : (idxAt (s := S1024) ![v] h (lane ⟨K, by omega⟩) 0).val = (tok (n + K)).toNat := by
        show (v (lane ⟨K, by omega⟩)).toNat = _
        rw [hv]
      have hcond : (∀ a, (j a).val = (idxAt (s := S1024) ![v] h (lane ⟨K, by omega⟩) a).val) ↔ tok (n + K) = BitVec.ofNat 32 (j 0).val := by
        have hj : (j 0).val < 1024 := (j 0).isLt
        constructor
        · intro e
          have := (e 0).trans hval
          apply BitVec.eq_of_toNat_eq
          rw [BitVec.toNat_ofNat]; omega
        · intro e a
          obtain rfl : a = 0 := Subsingleton.elim _ _
          rw [hval, e, BitVec.toNat_ofNat]; omega
      by_cases hc : tok (n + K) = BitVec.ofNat 32 (j 0).val
      · rw [if_pos (hcond.mpr hc)]
        have hi : idxAt (s := S1024) ![v] h (lane ⟨K, by omega⟩) = j := by
          funext a; exact Fin.ext ((hcond.mpr hc a).symm)
        rw [hi]
        show (table tok (n + K) j : BitVec 32) + 1#32 = _
        unfold table
        rw [← Nat.add_assoc, cnt_succ, if_pos hc, BitVec.ofNat_add]
      · rw [if_neg (fun e => hc (hcond.mp e))]
        unfold table
        rw [← Nat.add_assoc, cnt_succ, if_neg hc, Nat.add_zero]
  have h16 := key 16 le_rfl
  rw [List.take_of_length_le (by simp)] at h16
  rw [← h16]
  unfold storeIdx
  show List.foldl _ _ (List.finRange 16) = _
  congr 1
  funext g k
  dsimp only
  rw [if_pos (show (1#1 : BitVec 1) = 1 from rfl), if_pos rfl]
  funext j
  by_cases hc : ∀ a, (j a).val = (idxAt (s := S1024) ![v] h (lane k) a).val
  · exact (if_pos hc).trans (if_pos hc).symm
  · exact (if_neg hc).trans (if_neg hc).symm

/-- A count, as a float. -/
def ofCount (F : FTy → Type) [FloatOps F] (c : ℕ) : F .f32 := FloatOps.sitofp .f32 (BitVec.ofNat 32 c)

/-- The vector the kernel stores: gathered from the histogram of the first `n` tokens at the sixteen tokens from `n` on,
    plus the running counts inside those sixteen, lane `k` is how often token `n + k` occurs up to and with position
    `n + k`. -/
theorem gather_scan {F : FTy → Type} [FloatOps F] (tok : ℕ → BitVec 32) (n : ℕ) (v : IVec S16 32) (hv : Holds tok n v)
    (h : ∀ a x, ((![v] : Fin 1 → IVec S16 32) a x).toNat < S1024.size a) (k : Fin 16) :
    k0_pay3 (F := F) v (loadIdx (F := F) (s := S1024) (e := .i32) (table tok n) ![v] h) (lane k)
      = ofCount F (cnt tok (n + k.val + 1) (tok (n + k.val))) := by
  show FloatOps.sitofp .f32 ((loadIdx (F := F) (s := S1024) (e := .i32) (table tok n) ![v] h (lane k) : BitVec 32)
    + (scanCount (broadcast S16 1#1) v).2 (lane k)) = _
  unfold ofCount
  congr 1
  have h1 : (loadIdx (F := F) (s := S1024) (e := .i32) (table tok n) ![v] h (lane k) : BitVec 32) = BitVec.ofNat 32 (cnt tok n (tok (n + k.val))) := by
    show table tok n (idxAt ![v] h (lane k)) = _
    unfold table
    have hval : (idxAt (s := S1024) ![v] h (lane k) 0).val = (tok (n + k.val)).toNat := by
      show (v (lane k)).toNat = _
      rw [hv]
    rw [hval, BitVec.ofNat_toNat, BitVec.setWidth_eq]
  have h2 : (scanCount (broadcast S16 1#1) v).2 (lane k) = BitVec.ofNat 32 (cnt (fun p => tok (n + p)) (k.val + 1) (tok (n + k.val))) := by
    have hpos : ∀ x : S16.Idx, (S16.rowMajor x).val = (x 0).val := by decide
    unfold scanCount
    dsimp only
    rw [if_pos (show broadcast S16 1#1 (lane k) = 1 from rfl)]
    congr 1
    unfold cnt
    rw [← Finset.card_filter]
    refine Finset.card_bij (fun x _ => (x 0).val) ?_ ?_ ?_
    · intro x hx
      obtain ⟨-, hle, -, he⟩ := Finset.mem_filter.mp hx
      rw [hpos, hpos] at hle
      refine Finset.mem_filter.mpr ⟨Finset.mem_range.mpr (Nat.lt_succ_of_le hle), ?_⟩
      rw [← hv k, ← he]
      exact (hv (x 0)).symm.trans (congrArg v (lane_eq x))
    · intro x _ y _ e
      rw [← lane_eq x, ← lane_eq y]
      exact congrArg lane (Fin.ext e)
    · intro p hp
      obtain ⟨hlt, he⟩ := Finset.mem_filter.mp hp
      have hlt := Finset.mem_range.mp hlt
      have hk := k.isLt
      refine ⟨lane ⟨p, by omega⟩, Finset.mem_filter.mpr ⟨Finset.mem_univ _, ?_, rfl, ?_⟩, rfl⟩
      · rw [hpos, hpos]; exact Nat.le_of_lt_succ hlt
      · rw [hv, hv]; exact he
  rw [h1, h2, ← BitVec.ofNat_add, Nat.add_assoc n, cnt_add tok n (k.val + 1)]

/-! ## The kernel's offsets and trip counts -/

/-- The row of the tile at `i`: four tiles share a row. -/
def rowOf (i : grid0.Coords) : ℕ := (i 1).val / 4
/-- The first position of the quarter of its row that the tile at `i` writes. -/
def startOf (i : grid0.Coords) : ℕ := 1024 * ((i 1).val % 4)

theorem rowOf_lt (i : grid0.Coords) : rowOf i < 4 := by
  have : (i 1).val < 16 := (i 1).isLt
  unfold rowOf; omega
theorem startOf_le (i : grid0.Coords) : startOf i ≤ 3072 := by
  unfold startOf; omega

theorem off1_eq : ∀ i : grid0.Coords, k0_off1 i = ![rowOf i, 0] := by decide +kernel
theorem off21_eq : ∀ i : grid0.Coords, k0_off21 i = ![rowOf i, startOf i] := by decide +kernel
theorem trips1 : k0_t1_loop.trips = 64 := by decide +kernel
theorem trips2 : ∀ i : grid0.Coords, 128 * (k0_t2_loop i).trips = startOf i := by decide +kernel
theorem trips3 : ∀ i : grid0.Coords, (k0_t3_loop i).trips = 0 := by decide +kernel
theorem trips4 : k0_t4_loop.trips = 64 := by decide +kernel

theorem off3_eq : ∀ (i : grid0.Coords) (t : Fin (k0_t2_loop i).trips), k0_off3 i t 0 = 128 * t.val := by decide +kernel
theorem off4_eq : ∀ (i : grid0.Coords) (t : Fin (k0_t2_loop i).trips), k0_off4 i t 0 = 128 * t.val + 16 := by decide +kernel
theorem off5_eq : ∀ (i : grid0.Coords) (t : Fin (k0_t2_loop i).trips), k0_off5 i t 0 = 128 * t.val + 16 + 16 := by decide +kernel
theorem off6_eq : ∀ (i : grid0.Coords) (t : Fin (k0_t2_loop i).trips), k0_off6 i t 0 = 128 * t.val + 16 + 16 + 16 := by decide +kernel
theorem off7_eq : ∀ (i : grid0.Coords) (t : Fin (k0_t2_loop i).trips), k0_off7 i t 0 = 128 * t.val + 16 + 16 + 16 + 16 := by decide +kernel
theorem off8_eq : ∀ (i : grid0.Coords) (t : Fin (k0_t2_loop i).trips), k0_off8 i t 0 = 128 * t.val + 16 + 16 + 16 + 16 + 16 := by decide +kernel
theorem off9_eq : ∀ (i : grid0.Coords) (t : Fin (k0_t2_loop i).trips), k0_off9 i t 0 = 128 * t.val + 16 + 16 + 16 + 16 + 16 + 16 := by
  decide +kernel
theorem off10_eq : ∀ (i : grid0.Coords) (t : Fin (k0_t2_loop i).trips), k0_off10 i t 0 = 128 * t.val + 16 + 16 + 16 + 16 + 16 + 16 + 16 := by
  decide +kernel
theorem off19_eq : ∀ (i : grid0.Coords) (t : Fin k0_t4_loop.trips), k0_off19 i t 0 = startOf i + 16 * t.val := by decide +kernel

end Cert.Proof.Counts

end
-- ==== Proof.Trips.lean ====
/-
  The trips of the kernel's loops, each over the three scratch buffers it names: a trip of the zeroing loop, a trip of
  the histogram loop (eight times "load sixteen tokens, add one at each in the table"), a trip of the counting loop.
-/
module

public import proofs.«01_k».proof.Proof.Counts
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes

@[expose] public section

noncomputable section

namespace Cert.Proof.Trips

open Cert.KernelIdeal Cert.KernelIdeal.Gen
open Cert.Proof.Counts

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The kernel's loops have no variants. -/
abbrev 𝒱₀ : Variants := Variants.none

/-- The ghost state: the handshakes' rounds and the transfers' counters. -/
abbrev UU : Type := URounds (GSem nD τ sig) ℕ × Counters

local notation "𝕄" => MT nD τ sig (HIx 1) (Elt F) ℕ UU ℕ

/-! ## The scratch buffers of a tile -/

/-- All tokens, all results; the tile's row of tokens, its results and its table, as the kernel addresses them. -/
abbrev xV : Memref sig .scVector .hbm S4x4096 .i32 := Memref.whole main_arg0_scv
abbrev oV : Memref sig .scVector .hbm S4x4096 .f32 := Memref.whole main_v0_scv
abbrev tokV : Memref sig .scVector .vmem S4096 .i32 := Memref.whole cc0_scratch0
abbrev resV : Memref sig .scVector .vmem S1024 .f32 := Memref.whole cc0_scratch1
abbrev tabV : Memref sig .scVector .vmem S1024 .i32 := Memref.whole cc0_scratch2

abbrev cV (L : grid0.Coords) : Fin τ.nSC := (L 0).castLE hcore0
abbrev jV (L : grid0.Coords) : Fin τ.nSub := (L 1).castLE hsub0
/-- The thread of the tile at `L` on device `d`. -/
abbrev tile (d : Dev nD) (L : grid0.Coords) : Thread nD τ := V d (cV L) (jV L)

/-- A row of 4096 tokens as a buffer's contents. -/
def rowBuf (tok : ℕ → BitVec 32) : S4096.Idx → BitVec 32 := fun j => tok (j 0).val

variable (d : Dev nD) (L : grid0.Coords)

/-- The token buffer holds the row `tok`. -/
abbrev tokPts (tok : ℕ → BitVec 32) : sProp 𝕄 := (tokV).view.loc (tile d L) ↦{fullShare} (rowBuf tok : Buf (Elt F) ((tokV).view.loc (tile d L)))
/-- The table holds `f`. -/
abbrev tabPts (f : S1024.Idx → BitVec 32) : sProp 𝕄 := (tabV).view.loc (tile d L) ↦{fullShare} (f : Buf (Elt F) ((tabV).view.loc (tile d L)))
/-- The result buffer holds `f`. -/
abbrev resPts (f : S1024.Idx → F .f32) : sProp 𝕄 := (resV).view.loc (tile d L) ↦{fullShare} (f : Buf (Elt F) ((resV).view.loc (tile d L)))

omit [FloatOps F] in
/-- Sixteen tokens loaded from position `n` of the row on are the row's. -/
theorem load_holds (tok : ℕ → BitVec 32) (n : ℕ) (off : Fin 1 → ℕ) (hoff : off 0 = n)
    (inb : ∀ a, off a + S16.size a ≤ S4096.size a) :
    Holds tok n ((tokV).view.readAt (Elt F) (Rect.unit (s := S4096) off S16.size inb).toLoadRect
      (rowBuf tok : (tokV).view.ty.Contents (Elt F))) := by
  intro k
  subst hoff
  rw [View.readAt_apply]
  show tok (off 0 + 1 * k.val) = _
  rw [Nat.one_mul]

omit [FloatOps F] in
/-- Sixteen lanes written from position `n` on into a buffer of 1024, read back: the lane there, the old contents
    elsewhere. -/
theorem write_lanes {e : EltTy} (b : Memref sig .scVector .vmem S1024 e) (off : Fin 1 → ℕ) (n : ℕ) (hoff : off 0 = n)
    (inb : ∀ a, off a + S16.size a ≤ S1024.size a) (f : b.view.ty.Contents (Elt F)) (w : S16.Idx → Elt F e) (j : S1024.Idx) :
    b.view.read (Elt F) ((b.access (Rect.unit (s := S1024) off S16.size inb)).write (Elt F) f w Finset.univ) j
      = if h : n ≤ (j 0).val ∧ (j 0).val < n + 16 then w (lane ⟨(j 0).val - n, by omega⟩) else b.view.read (Elt F) f j := by
  subst hoff
  have hw : (b.access (Rect.unit (s := S1024) off S16.size inb)).write (Elt F) f w Finset.univ
      = b.view.writes (Elt F) f [⟨Rect.unit (s := S1024) off S16.size inb, w⟩] := rfl
  rw [hw]
  split
  · rename_i h
    refine View.read_writes_cons_hit_of_coords b.view f (Rect.unit (s := S1024) off S16.size inb) w [] (lane ⟨(j 0).val - off 0, by omega⟩) j ?_
    intro a
    obtain rfl : a = 0 := Subsingleton.elim _ _
    show (j 0).val = off 0 + 1 * ((j 0).val - off 0)
    omega
  · rename_i h
    refine (View.read_writes_cons_miss_of_axis b.view f (⟨Rect.unit (s := S1024) off S16.size inb, w⟩ : View.Piece (Elt F) S1024 e) [] j 0 (off 0) 16 rfl rfl rfl ?_)
    omega

/-! ## Adding sixteen tokens to the table -/

omit [FloatOps F] in
/-- The table taken whole is all of its buffer, and read so it is the buffer's contents. -/
theorem tab_set : ((tabV).access (.whole S1024)).set = Finset.univ := Memref.set_access_whole cc0_scratch2
omit [FloatOps F] in
theorem tab_read (f : (tabV).view.ty.Contents (Elt F)) : ((tabV).access (.whole S1024)).read (Elt F) f = f :=
  Memref.read_access_whole (Elt F) cc0_scratch2 f
omit [FloatOps F] in
theorem tab_write (f w : (tabV).view.ty.Contents (Elt F)) : ((tabV).access (.whole S1024)).write (Elt F) f w Finset.univ = w :=
  Memref.write_access_whole_univ (Elt F) cc0_scratch2 f w

omit [FloatOps F] in
/-- Sixteen tokens of a row whose tokens are below 1024 name entries of the table. -/
theorem holds_inb (tok : ℕ → BitVec 32) (hlt : ∀ p, (tok p).toNat < 1024) (n : ℕ) (v : IVec S16 32) (hv : Holds tok n v) :
    ∀ a x, ((![v] : Fin 1 → IVec S16 32) a x).toNat < S1024.size a := by
  intro a x
  obtain rfl : a = 0 := Subsingleton.elim _ _
  rw [← lane_eq x]
  exact lt_of_eq_of_lt (congrArg BitVec.toNat (hv (x 0))) (hlt _)

/-- The indexed add of ones at the sixteen tokens from position `n` on: the table of the first `n` tokens becomes that of
    the first `n + 16`. -/
theorem wp_scatter {α : Type} (tok : ℕ → BitVec 32) (n : ℕ) (v : IVec S16 32) (hv : Holds tok n v)
    (h : ∀ a x, ((![v] : Fin 1 → IVec S16 32) a x).toNat < S1024.size a)
    {hs : ((tabV).access (.whole S1024)).Stores Finset.univ}
    {k : PUnit → Prog (TpuEff nD τ sig (Elt F) Λ₀ (tile d L).2) α} {Q : α → sProp 𝕄} :
    tabPts d L (table tok n)
      ⊢ iprop((tabPts d L (table tok (n + 16)) -∗ wp frame (wpE (defs₀ (F := F)) 𝒱₀ (tile d L) none) Set.univ (k ⟨⟩) Q)
        -∗ wp frame (wpE (defs₀ (F := F)) 𝒱₀ (tile d L) none) Set.univ
            (SparseCore.vectorStoreIdx tabV ![v] k0_pay2 (fun _ => 1#1) true h hs >>= k) Q) := by
  iintro Ht Hk
  ihave Ht' := (Entails.of_eq (show (tabPts d L (table tok n) : sProp 𝕄)
      = ((tabV).access (.whole S1024)).loc (tile d L) ↦[((tabV).access (.whole S1024)).set]{fullShare} (table tok n : Buf (Elt F) (((tabV).access (.whole S1024)).loc (tile d L))) by
    rw [tab_set])) $$ Ht
  iapply (SparseCore.wp_vectorStoreIdx 𝒱₀ (tile d L) none Set.univ (base := tabV)) $$ Ht'; iintro Ht'
  iapply Hk
  rw [tab_set, tab_write, tab_read, scatter_table tok n _ hv]
  iexact Ht'

/-- "Load sixteen tokens at `off`, assume they name entries of the table, add one at each": from the row's buffer and
    the table of the first `n` tokens, `off` being position `n`, the program goes on with the table of the first
    `n + 16`. The condition assumed may be any that follows from the tokens naming entries. -/
theorem wp_tally {α : Type} (tok : ℕ → BitVec 32) (hlt : ∀ p, (tok p).toNat < 1024) (n : ℕ) (off : Fin 1 → ℕ) (hoff : off 0 = n)
    (inb : ∀ a, off a + S16.size a ≤ S4096.size a) (C : IVec S16 32 → Prop) (dec : ∀ v, Decidable (C v))
    (hC : ∀ v : IVec S16 32, (∀ a x, ((![v] : Fin 1 → IVec S16 32) a x).toNat < S1024.size a) → C v)
    (hin : ∀ v, C v → ∀ a x, ((![v] : Fin 1 → IVec S16 32) a x).toNat < S1024.size a)
    {hl : (tokV).view.LoadsAt (Rect.unit (s := S4096) off S16.size inb).toLoadRect}
    {hs : ((tabV).access (.whole S1024)).Stores Finset.univ}
    {k : PUnit → Prog (TpuEff nD τ sig (Elt F) Λ₀ (tile d L).2) α} {Q : α → sProp 𝕄} :
    iprop(tokPts d L tok ∗ tabPts d L (table tok n))
      ⊢ iprop((iprop(tokPts d L tok ∗ tabPts d L (table tok (n + 16)))
            -∗ wp frame (wpE (defs₀ (F := F)) 𝒱₀ (tile d L) none) Set.univ (k ⟨⟩) Q)
        -∗ wp frame (wpE (defs₀ (F := F)) 𝒱₀ (tile d L) none) Set.univ
            (.op (.load tokV (Rect.unit (s := S4096) off S16.size inb).toLoadRect hl) fun (v : Vec F S16 .i32) =>
              .op (.assume (C v) (dec v)) fun h =>
                SparseCore.vectorStoreIdx tabV ![v] k0_pay2 (fun _ => 1#1) true (hin v h.down) hs >>= k) Q) := by
  iintro ⟨Hx, Ht⟩ Hk
  iapply (wp_load 𝒱₀ (tile d L) none Set.univ (m := tokV) (S := Finset.univ) (Finset.subset_univ _)) $$ Hx; iintro Hx
  have hv := load_holds (F := F) tok n off hoff inb
  have hidx := holds_inb tok hlt n _ hv
  rw [wp_assume_of _ _ _ _ (hC _ hidx)]
  iapply (wp_scatter d L tok n _ hv hidx) $$ Ht; iintro Ht
  iapply Hk
  isplitl [Hx] <;> iassumption

/-! ## The zeroing loop -/

/-- Before trip `t` of the zeroing loop the first `16 t` entries of the table are zero. -/
def zeroInv (t : ℕ) (_ : PUnit) : sProp 𝕄 :=
  iprop(∃ f : S1024.Idx → BitVec 32, ⌜∀ j, (j 0).val < 16 * t → f j = 0#32⌝ ∗ tabPts d L f)

/-- A trip of the zeroing loop. -/
theorem zero_trip (t : Fin k0_t1_loop.trips) (a : PUnit) :
    zeroInv (F := F) d L t.val a ⊢ wp frame (wpE (defs₀ (F := F)) 𝒱₀ (tile d L) none) Set.univ
      (k0_t1_body L xV (Memref.isWhole_whole _) oV (Memref.isWhole_whole _) tokV (Memref.isWhole_whole _) resV (Memref.isWhole_whole _)
        tabV (Memref.isWhole_whole _) cc0_scoped0 cc0_scoped1 t a) (zeroInv (F := F) d L (t.val + 1)) := by
  unfold k0_t1_body zeroInv
  simp only [Prog.lift, Prog.bind_op, Prog.bind_ret, Prog.pure_eq_ret]
  iintro ⟨%f, %hf, Ht⟩
  iapply (wp_load 𝒱₀ (tile d L) none Set.univ (m := tabV) (S := Finset.univ) (Finset.subset_univ _)) $$ Ht; iintro Ht
  iapply (wp_store 𝒱₀ (tile d L) none Set.univ (m := tabV) (r := Rect.unit (s := S1024) (k0_off2 t) S16.size (k0_off2_inb t))
    (Mk := Finset.univ) (S := Finset.univ) (Finset.subset_univ _)) $$ Ht; iintro Ht
  rw [wp_ret]; imodintro
  iexists _; isplitr
  swap; · iexact Ht
  ipureintro
  intro j hj
  refine (write_lanes (F := F) tabV (k0_off2 t) (16 * t.val) (by rw [k0_off2_eq]; rfl) (k0_off2_inb t) f k0_pay1 j).trans ?_
  split
  · rfl
  · exact hf j (by omega)

/-! ## The histogram loop -/

/-- Before trip `t` of the histogram loop the table is that of the first `128 t` tokens. -/
def histInv (tok : ℕ → BitVec 32) (t : ℕ) (_ : PUnit) : sProp 𝕄 :=
  iprop(tokPts d L tok ∗ tabPts d L (table tok (128 * t)))

/-- A trip of the histogram loop: eight times sixteen tokens. -/
theorem hist_trip (tok : ℕ → BitVec 32) (hlt : ∀ p, (tok p).toNat < 1024) (t : Fin (k0_t2_loop L).trips) (a : PUnit) :
    histInv (F := F) d L tok t.val a ⊢ wp frame (wpE (defs₀ (F := F)) 𝒱₀ (tile d L) none) Set.univ
      (k0_t2_body L xV (Memref.isWhole_whole _) oV (Memref.isWhole_whole _) tokV (Memref.isWhole_whole _) resV (Memref.isWhole_whole _)
        tabV (Memref.isWhole_whole _) cc0_scoped0 cc0_scoped1 t a) (histInv (F := F) d L tok (t.val + 1)) := by
  unfold k0_t2_body histInv
  rw [k0_part1_eq_skeleton]; unfold k0_part1_skel
  simp only [Prog.lift, Prog.bind_op, Prog.bind_ret, Prog.pure_eq_ret, bind_assoc]
  iintro H
  iapply (wp_tally d L tok hlt _ (k0_off3 L t) (off3_eq L t) (k0_off3_inb L t) (k0_chk1 L t) (k0_chk1.dec L t) (fun _ h => h) (k0_idx1_inb L t)) $$ H; iintro H
  iapply (wp_tally d L tok hlt _ (k0_off4 L t) (off4_eq L t) (k0_off4_inb L t) (k0_chk2 L t) (k0_chk2.dec L t) (fun _ h => h) (k0_idx2_inb L t)) $$ H; iintro H
  iapply (wp_tally d L tok hlt _ (k0_off5 L t) (off5_eq L t) (k0_off5_inb L t) (k0_chk3 L t) (k0_chk3.dec L t) (fun _ h => h) (k0_idx3_inb L t)) $$ H; iintro H
  iapply (wp_tally d L tok hlt _ (k0_off6 L t) (off6_eq L t) (k0_off6_inb L t) (k0_chk4 L t) (k0_chk4.dec L t) (fun _ h => h) (k0_idx4_inb L t)) $$ H; iintro H
  iapply (wp_tally d L tok hlt _ (k0_off7 L t) (off7_eq L t) (k0_off7_inb L t) (k0_chk5 L t) (k0_chk5.dec L t) (fun _ h => h) (k0_idx5_inb L t)) $$ H; iintro H
  iapply (wp_tally d L tok hlt _ (k0_off8 L t) (off8_eq L t) (k0_off8_inb L t) (k0_chk6 L t) (k0_chk6.dec L t) (fun _ h => h) (k0_idx6_inb L t)) $$ H; iintro H
  iapply (wp_tally d L tok hlt _ (k0_off9 L t) (off9_eq L t) (k0_off9_inb L t) (k0_chk7 L t) (k0_chk7.dec L t) (fun _ h => h) (k0_idx7_inb L t)) $$ H; iintro H
  iapply (wp_tally d L tok hlt _ (k0_off10 L t) (off10_eq L t) (k0_off10_inb L t) (k0_chk8 L t) (k0_chk8.dec L t) (fun _ h => h) (k0_idx8_inb L t)) $$ H; iintro H
  rw [wp_ret]; imodintro
  iexact H

/-! ## The counting loop -/

/-- The result at position `p` of the row: how often its token occurs up to and with `p`. -/
def upTo (tok : ℕ → BitVec 32) (p : ℕ) : F .f32 := ofCount F (cnt tok (p + 1) (tok p))

/-- Before trip `t` of the counting loop the table is that of the tokens before position `start + 16 t`, and the first
    `16 t` results are those of the positions from `start` on. -/
def countInv (tok : ℕ → BitVec 32) (t : ℕ) (_ : PUnit) : sProp 𝕄 :=
  iprop(tokPts d L tok ∗ tabPts d L (table tok (startOf L + 16 * t))
    ∗ ∃ g : S1024.Idx → F .f32, ⌜∀ j, (j 0).val < 16 * t → g j = upTo tok (startOf L + (j 0).val)⌝ ∗ resPts d L g)

/-- A trip of the counting loop. -/
theorem count_trip (tok : ℕ → BitVec 32) (hlt : ∀ p, (tok p).toNat < 1024) (t : Fin k0_t4_loop.trips) (a : PUnit) :
    countInv (F := F) d L tok t.val a ⊢ wp frame (wpE (defs₀ (F := F)) 𝒱₀ (tile d L) none) Set.univ
      (k0_t4_body L xV (Memref.isWhole_whole _) oV (Memref.isWhole_whole _) tokV (Memref.isWhole_whole _) resV (Memref.isWhole_whole _)
        tabV (Memref.isWhole_whole _) cc0_scoped0 cc0_scoped1 t a) (countInv (F := F) d L tok (t.val + 1)) := by
  unfold k0_t4_body countInv
  simp only [Prog.lift, Prog.bind_op, Prog.bind_ret, Prog.pure_eq_ret]
  iintro ⟨Hx, Ht, %g, %hg, Hr⟩
  iapply (wp_load 𝒱₀ (tile d L) none Set.univ (m := tokV) (S := Finset.univ) (Finset.subset_univ _)) $$ Hx; iintro Hx
  have hv := load_holds (F := F) tok (startOf L + 16 * t.val) (k0_off19 L t) (off19_eq L t) (k0_off19_inb L t)
  have hidx := holds_inb tok hlt _ _ hv
  rw [wp_assume_of _ _ _ _ (show k0_chk17 _ from ⟨hidx, hidx⟩)]
  iapply (SparseCore.wp_vectorLoadIdx 𝒱₀ (tile d L) none Set.univ (base := tabV) (S := Finset.univ) (q := fullShare) (Finset.subset_univ _)) $$ Ht; iintro Ht
  iapply (wp_load 𝒱₀ (tile d L) none Set.univ (m := resV) (S := Finset.univ) (Finset.subset_univ _)) $$ Hr; iintro Hr
  iapply (wp_store 𝒱₀ (tile d L) none Set.univ (m := resV) (r := Rect.unit (s := S1024) (k0_off20 t) S16.size (k0_off20_inb t))
    (Mk := Finset.univ) (S := Finset.univ) (Finset.subset_univ _)) $$ Hr; iintro Hr
  iapply (wp_scatter d L tok _ _ hv (hidx)) $$ Ht; iintro Ht
  rw [wp_ret]; imodintro
  isplitl [Hx]; · iexact Hx
  isplitl [Ht]; · iexact Ht
  iexists _; isplitr
  swap; · iexact Hr
  ipureintro
  intro j hj
  refine (write_lanes (F := F) resV (k0_off20 t) (16 * t.val) (by rw [k0_off20_eq]; rfl) (k0_off20_inb t) g _ j).trans ?_
  split
  · rename_i h
    rw [tab_read, gather_scan tok _ _ hv]
    unfold upTo
    rw [show startOf L + 16 * t.val + ((j 0).val - 16 * t.val) = startOf L + (j 0).val by omega]
  · exact hg j (by omega)

end Cert.Proof.Trips

end
-- ==== Proof.Tile.lean ====
/-
  One tile's task: fetch a row of tokens, clear the table, count the tokens before the tile's quarter of the row, count
  along the quarter, write the quarter of the result out. What it leaves in the result is, at each position, how often
  the position's token occurs in its row up to and with the position.
-/
module

public import proofs.«01_k».proof.Proof.Trips

@[expose] public section

noncomputable section

namespace Cert.Proof.Tile

open Cert.KernelIdeal Cert.KernelIdeal.Gen
open Cert.Proof.Counts Cert.Proof.Trips

open Idealize.ShloMosaic
open Idealize.ShloMosaic.SparseCore (V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The result -/

/-- Row `b` of the tokens, position by position; zero outside. -/
def rowTok (x : S4x4096.Idx → BitVec 32) (b : ℕ) : ℕ → BitVec 32 := fun p =>
  if h : b < 4 ∧ p < 4096 then x (Shape.pair (d := ![4, 4096]) ⟨b, h.1⟩ ⟨p, h.2⟩) else 0#32

/-- A row's tokens are as small as all tokens are. -/
theorem rowTok_lt (x : S4x4096.Idx → BitVec 32) (n : ℕ) (hn : 0 < n) (hx : ∀ j, (x j).toNat < n) (b p : ℕ) :
    (rowTok x b p).toNat < n := by
  unfold rowTok
  split
  · exact hx _
  · exact hn

/-- The result: at row `b` and position `p`, how often that position's token occurs in row `b` up to and with `p`. -/
def counts [FloatOps F] (x : S4x4096.Idx → BitVec 32) : S4x4096.Idx → F .f32 := fun i => upTo (rowTok x (i 0).val) (i 1).val

/-! ## The row a tile reads and the quarter it writes -/

section Views

variable (L : grid0.Coords)

/-- The tile's row of the tokens and its quarter of a row of the result, as the kernel addresses them. -/
abbrev iRowK : Memref sig .scVector .hbm S4096 .i32 :=
  ((xV).slice (Rect.unit (s := S4x4096) (k0_off1 L) S1x4096.size (k0_off1_inb L)) (fun _ => rfl)).squeeze S4096 squeezes_S1x4096_S4096
abbrev oRowK : Memref sig .scVector .hbm S1024 .f32 :=
  ((oV).slice (Rect.unit (s := S4x4096) (k0_off21 L) S1x1024.size (k0_off21_inb L)) (fun _ => rfl)).squeeze S1024 squeezes_S1x1024_S1024

/-- An index of a row of length `n`, seen in the one-row matrix, is the row's column. -/
theorem unsqueeze (n : ℕ) (h : (⟨1, ![n]⟩ : Shape).numel = (⟨2, ![1, n]⟩ : Shape).numel) (j : (⟨1, ![n]⟩ : Shape).Idx) :
    Shape.reshapeEquiv h j = Shape.pair (d := ![1, n]) (0 : Fin 1) (j 0) :=
  Shape.reshapeEquiv_eq_of_rowMajor h (((Shape.rowMajor_pair_val (d := ![1, n]) (0 : Fin 1) (j 0)).trans
    (show 0 * n + (j 0).val = (j 0).val by omega)).trans (Shape.rowMajor_val_one (d := ![n]) j).symm)

/-- Where the elements of the tile's row are among the tokens. -/
theorem iRow_emb (j : S4096.Idx) :
    (iRowK L).view.emb j = Shape.pair (d := ![4, 4096]) ⟨rowOf L, rowOf_lt L⟩ (j 0) := by
  show (Rect.unit (s := S4x4096) (k0_off1 L) S1x4096.size (k0_off1_inb L)).emb (Shape.reshapeEquiv squeezes_S1x4096_S4096.numel_eq j) = _
  rw [show Shape.reshapeEquiv squeezes_S1x4096_S4096.numel_eq j = _ from unsqueeze 4096 _ j]
  funext a
  apply Fin.ext
  have e := off1_eq L
  match a with
  | 0 => exact congrFun e 0
  | 1 => have e1 : k0_off1 L 1 = 0 := congrFun e 1
         show k0_off1 L 1 + 1 * (j 0).val = (j 0).val
         omega

/-- Where the elements of the tile's quarter are in the result. -/
theorem oRow_emb (j : S1024.Idx) :
    (oRowK L).view.emb j = Shape.pair (d := ![4, 4096]) ⟨rowOf L, rowOf_lt L⟩
      (⟨startOf L + (j 0).val, by have := startOf_le L; have : (j 0).val < 1024 := (j 0).isLt; show _ < 4096; omega⟩ : Fin 4096) := by
  show (Rect.unit (s := S4x4096) (k0_off21 L) S1x1024.size (k0_off21_inb L)).emb (Shape.reshapeEquiv squeezes_S1x1024_S1024.numel_eq j) = _
  rw [show Shape.reshapeEquiv squeezes_S1x1024_S1024.numel_eq j = _ from unsqueeze 1024 _ j]
  funext a
  apply Fin.ext
  have e := off21_eq L
  match a with
  | 0 => exact congrFun e 0
  | 1 => have e1 : k0_off21 L 1 = startOf L := congrFun e 1
         show k0_off21 L 1 + 1 * (j 0).val = startOf L + (j 0).val
         omega

/-- Block `i` of the result: quarter `i % 4` of row `i / 4`. -/
def blk (i : Fin 16) : Finset S4x4096.Idx := Finset.univ.filter fun j => 4 * (j 0).val + (j 1).val / 1024 = i.val

theorem bound_one : grid0.bound 1 = 16 := rfl
/-- The tile's number. -/
abbrev jL : Fin 16 := Fin.cast bound_one (L 1)

/-- A tile writes its own block. -/
theorem set_oRowK : (oRowK L).view.set = blk (jL L) := by
  ext j
  have h0 : (j 0).val < 4 := (j 0).isLt
  have h1 : (j 1).val < 4096 := (j 1).isLt
  have hL : (L 1).val < 16 := (L 1).isLt
  have hr : rowOf L = (L 1).val / 4 := rfl
  have hs : startOf L = 1024 * ((L 1).val % 4) := rfl
  have hset : j ∈ (oRowK L).view.set ↔ ∃ y, (oRowK L).view.emb y = j := by simp [View.set]
  rw [hset]
  unfold blk
  rw [Finset.mem_filter]
  constructor
  · rintro ⟨y, rfl⟩
    rw [oRow_emb]
    have hy : (y 0).val < 1024 := (y 0).isLt
    refine ⟨Finset.mem_univ _, ?_⟩
    show 4 * rowOf L + (startOf L + (y 0).val) / 1024 = (L 1).val
    omega
  · rintro ⟨-, h⟩
    replace h : 4 * (j 0).val + (j 1).val / 1024 = (L 1).val := h
    have hc : (j 1).val - startOf L < 1024 := by omega
    refine ⟨Shape.ofLane (d := ![1024]) ⟨(j 1).val - startOf L, hc⟩, ?_⟩
    rw [oRow_emb]
    refine Eq.trans ?_ (Shape.pair_eta (d := ![4, 4096]) j)
    congr 1 <;> apply Fin.ext
    · show rowOf L = (j 0).val
      omega
    · show startOf L + ((j 1).val - startOf L) = (j 1).val
      omega

/-- The row the tile fetches. -/
theorem read_iRowK (f : S4x4096.Idx → BitVec 32) :
    (iRowK L).view.read (Elt F) (f : (iRowK L).view.ty.Contents (Elt F)) = rowBuf (rowTok f (rowOf L)) := by
  funext j
  rw [show (iRowK L).view.read (Elt F) (f : (iRowK L).view.ty.Contents (Elt F)) j = f ((iRowK L).view.emb j) from
    (View.read_apply _ _).trans (cast_eq _ _), iRow_emb]
  have hj : (j 0).val < 4096 := (j 0).isLt
  show _ = rowTok f (rowOf L) (j 0).val
  unfold rowTok
  rw [dif_pos ⟨rowOf_lt L, hj⟩]
  rfl

/-- The quarter of the result after the tile's write-out of counts along the quarter. -/
theorem write_oRowK [FloatOps F] (x : S4x4096.Idx → BitVec 32) (f : S4x4096.Idx → F .f32) (g : S1024.Idx → F .f32)
    (hg : ∀ j, g j = upTo (rowTok x (rowOf L)) (startOf L + (j 0).val)) :
    ∀ i ∈ (oRowK L).view.set,
      (oRowK L).view.writes (Elt F) (f : (oRowK L).view.ty.Contents (Elt F)) [⟨Rect.whole S1024, g⟩] i = counts x i := by
  intro i hi
  have hset : i ∈ (oRowK L).view.set ↔ ∃ y, (oRowK L).view.emb y = i := by simp [View.set]
  obtain ⟨y, rfl⟩ := hset.mp hi
  have hr := View.read_writes_cons_hit_of_coords (Val := Elt F) (oRowK L).view (f : (oRowK L).view.ty.Contents (Elt F)) (Rect.whole S1024)
    (g : (Rect.whole S1024).shape.Idx → Elt F .f32) [] y y
    (fun a => by show (y a).val = 0 + 1 * (y a).val; omega)
  refine (((View.read_apply _ _).trans (cast_eq _ _)).symm.trans hr).trans ?_
  rw [hg, oRow_emb]
  rfl

end Views

/-! ## The task -/

variable (m : (ℓ : Loc nD τ sig) → Buf (Elt F) ℓ)

abbrev xLoc (d : Dev nD) : Loc nD τ sig := (SparseCore.T d).loc main_arg0
abbrev oLoc (d : Dev nD) : Loc nD τ sig := (SparseCore.T d).loc main_v0

/-- What the proof asks of the launch memory: every token is an entry of the vocabulary. -/
def PreOK : Prop := ∀ (d : Dev nD) (j : S4x4096.Idx), (show BitVec 32 from m (xLoc d) j).toNat < 1000

/-- A share `q` of all tokens; block `i` of the result at `f`. -/
abbrev xShPts (d : Dev nD) (q : PosShare TreeShare) : sProp 𝕄 := xLoc d ↦{q} m (xLoc d)
abbrev blkPts (d : Dev nD) (i : Fin 16) (f : Buf (Elt F) (oLoc d)) : sProp 𝕄 := oLoc d ↦[blk i]{fullShare} f

section Task

variable (d : Dev nD) (L : grid0.Coords)

abbrev cIn : GSem nD τ sig := (tile d L, .dma cc0_scoped0.sem)
abbrev cOut : GSem nD τ sig := (tile d L, .dma cc0_scoped1.sem)

/-- The two transfers' semaphores are among the tile's own, all at zero: those two and the rest. -/
theorem ownSems0_V :
    (ownSems0 (tile d L) : sProp 𝕄)
      = iprop(semVal (cIn d L) 0 ∗ semVal (cOut d L) 0
          ∗ bigSep (((ownCells (tile d L)).erase (cIn d L)).erase (cOut d L)) fun g => semVal g 0) := by
  unfold SparseCore.Cfg.ownSems0
  rw [SparseCore.bigSep_erase' ((mem_ownCells (g := cIn d L)).mpr ⟨rfl, by
      show (SemLoc.dma cc0_scoped0.sem : SemLoc sig).isScoped .scVector = true; decide⟩),
    SparseCore.bigSep_erase' (Finset.mem_erase.mpr ⟨by simp [cIn, cOut]; decide, (mem_ownCells (g := cOut d L)).mpr ⟨rfl, by
      show (SemLoc.dma cc0_scoped1.sem : SemLoc sig).isScoped .scVector = true; decide⟩⟩)]

/-- A buffer of the tile's, as one of its own. -/
abbrev ref (b : Ref sig .scVector) : DevRef τ sig := (Proc.scVector (cV L) (jV L)).devRef b

/-- The three scratch buffers are among the tile's own: those, at some contents, and the rest. -/
theorem ownBufs_V :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f)
          ∗ bigSep ((((ownRefs (τ := τ) (.scVector (cV L) (jV L))).erase (ref L cc0_scratch0)).erase (ref L cc0_scratch1)).erase (ref L cc0_scratch2))
              fun b => iprop(∃ f, ((d, b) : Loc nD τ sig) ↦{fullShare} f)) := by
  have own : ∀ b : Ref sig .scVector, (ref L b).owner = .proc (.scVector (cV L) (jV L)) → ref L b ∈ ownRefs (τ := τ) (.scVector (cV L) (jV L)) :=
    fun b h => SparseCore.Cfg.mem_ownRefs_of_owner h
  have ne : ∀ {b b' : Ref sig .scVector}, b ≠ b' → ref L b ≠ ref L b' := fun h e => h (Proc.devRef_injective _ e)
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩)]

/-- The tile's block, as the kernel addresses it. -/
theorem pts_oRowK (f : Buf (Elt F) (oLoc d)) :
    ((oRowK L).view.loc (tile d L) ↦[(oRowK L).view.set]{fullShare} f : sProp 𝕄) = blkPts d (jL L) f := by
  rw [set_oRowK]
/-- All tokens, as the kernel addresses them. -/
theorem pts_xV (q : PosShare TreeShare) (f : Buf (Elt F) (xLoc d)) :
    ((xV).view.loc (tile d L) ↦{q} f : sProp 𝕄) = xLoc d ↦{q} f := rfl

variable [FloatOps F]

/-- After the zeroing loop the table is that of no token. -/
theorem zero_done (tok : ℕ → BitVec 32) (a : PUnit) :
    zeroInv (F := F) d L k0_t1_loop.trips a ⊢ tabPts d L (table tok 0) := by
  unfold zeroInv
  iintro ⟨%f, %hf, Ht⟩
  have e : f = table tok 0 := by
    funext j
    rw [trips1] at hf
    have hj : (j 0).val < 1024 := (j 0).isLt
    rw [hf j (by omega)]
    unfold table
    rw [cnt_zero]
  subst e
  iexact Ht

/-- After the counting loop the results are the counts along the quarter. -/
theorem count_done (tok : ℕ → BitVec 32) (a : PUnit) :
    countInv (F := F) d L tok k0_t4_loop.trips a ⊢ iprop(tokPts d L tok ∗ tabPts d L (table tok (startOf L + 1024))
      ∗ ∃ g : S1024.Idx → F .f32, ⌜∀ j, g j = upTo tok (startOf L + (j 0).val)⌝ ∗ resPts d L g) := by
  unfold countInv
  rw [trips4]
  iintro ⟨Hx, Ht, %g, %hg, Hr⟩
  isplitl [Hx]; · iexact Hx
  isplitl [Ht]; · iexact Ht
  iexists g; isplitr
  · ipureintro; intro j; have hj : (j 0).val < 1024 := (j 0).isLt; exact hg j (by omega)
  · iexact Hr

/-- The tokens of the launch memory, and the result they give. -/
abbrev toks (d : Dev nD) : S4x4096.Idx → BitVec 32 := m (xLoc d)
abbrev result (d : Dev nD) : Buf (Elt F) (oLoc d) := (counts (toks m d) : S4x4096.Idx → F .f32)

set_option maxHeartbeats 4000000 in
/-- The task of the tile at `L`: given a share of the tokens and its block of the result, it gives the share back and
    the block at the counts. -/
theorem tile_body {K : SparseCore.Cfg τ sig (Pipeline.Sig Λ₀ (Fin 0) fun p => (pcfgs (F := F) p).Adm) 1} (hF : K.Facts)
    (hpre : PreOK m) (q : PosShare TreeShare) (O : CellTallies nD τ sig (HIx 1)) (W : Waits sig (HIx 1)) (hO : ∀ g, O g none = 0) :
    iprop(levAts K.L K.lev ∗ emp ∗ (xShPts m d q ∗ blkPts d (jL L) (m (oLoc d)))
        ∗ scopedBufs (tile d L) ∗ scopedSems0 (tile d L) ∗ owes (tile d L) O W)
      ⊢ wp frame (wpE (defs₀ (F := F)) 𝒱₀ (tile d L) none) Set.univ
          (cc0_counts_kernel L xV (Memref.isWhole_whole _) oV (Memref.isWhole_whole _) tokV (Memref.isWhole_whole _)
            resV (Memref.isWhole_whole _) tabV (Memref.isWhole_whole _) cc0_scoped0 cc0_scoped1)
          fun _ => iprop((xShPts m d q ∗ blkPts d (jL L) (result m d))
            ∗ scopedBufs (tile d L) ∗ scopedSems0 (tile d L)
            ∗ ∃ W', ⌜∀ p ∈ W', p ∈ W ∨ p.2 = none⌝ ∗ owes (tile d L) O W') := by
  have hlt : ∀ p, (rowTok (toks m d) (rowOf L) p).toNat < 1024 := fun p =>
    Nat.lt_of_lt_of_le (rowTok_lt _ 1000 (by decide) (hpre d) _ p) (by decide)
  simp only [cc0_counts_kernel_eq_skeleton]; unfold cc0_counts_kernel_skel
  rw [k0_part3_eq_skeleton]; unfold k0_part3_skel
  rw [K.scopedBufs_V hF d (cV L) (jV L), SparseCore.Cfg.scopedSems0_V (Val := Elt F) d (cV L) (jV L), ownSems0_V, ownBufs_V]
  iintro ⟨#Hlv, -, ⟨Hx, Ho⟩, ⟨⟨%ft, Hk⟩, ⟨%fr, Hr⟩, ⟨%fb, Ht⟩, Hbufs⟩, ⟨HsemA, HsemB, Hsems⟩, HO⟩
  ihave Hmw := (show levAts K.L K.lev ⊢ Transfers.MayWaits (tile d L) (default : HIx 1) O from
    K.mayWaits_none (thr := tile d L) hO) $$ Hlv
  ihave Ho' := (Entails.of_eq (pts_oRowK (F := F) d L _).symm) $$ Ho
  ihave Hx' := (Entails.of_eq (pts_xV (F := F) d L _ _).symm) $$ Hx
  ihave Hk' := (Entails.of_eq (show ((tile d L).loc cc0_scratch0 ↦{fullShare} ft : sProp 𝕄) = (tokV).view.loc (tile d L) ↦{fullShare} ft from rfl)) $$ Hk
  ihave Hr' := (Entails.of_eq (show ((tile d L).loc cc0_scratch1 ↦{fullShare} fr : sProp 𝕄) = (resV).view.loc (tile d L) ↦{fullShare} fr from rfl)) $$ Hr
  ihave Ht' := (Entails.of_eq (show ((tile d L).loc cc0_scratch2 ↦{fullShare} fb : sProp 𝕄) = (tabV).view.loc (tile d L) ↦{fullShare} fb from rfl)) $$ Ht
  sl_exec
  -- what the fetch landed is the tile's row
  ihave Htok := (Entails.of_eq (show ((tokV).view.loc (tile d L) ↦{fullShare} View.write (Elt F) (tokV).view ft (tile_body.sl.dma0 m d L) Finset.univ : sProp 𝕄)
      = tokPts d L (rowTok (toks m d) (rowOf L)) by
    rw [View.write_whole_univ, show tile_body.sl.dma0 m d L = (iRowK L).view.read (Elt F) (m (xLoc d)) from rfl,
      show (iRowK L).view.read (Elt F) (m (xLoc d)) = _ from read_iRowK (F := F) L (toks m d)])) $$ Hk'
  sl_for (zeroInv (F := F) d L) $$ [Ht']
  case region => intro k a; exact zero_trip d L k a
  · unfold zeroInv
    iexists fb; isplitr
    · ipureintro; intro j hj; exact absurd hj (by omega)
    · iexact Ht'
  iintro %_ HI
  ihave Hz := (zero_done (F := F) d L (rowTok (toks m d) (rowOf L)) _) $$ HI
  sl_exec
  sl_for (histInv (F := F) d L (rowTok (toks m d) (rowOf L))) $$ [Htok Hz]
  case region => intro k a; exact hist_trip d L _ hlt k a
  · unfold histInv
    isplitl [Htok]
    · iexact Htok
    · iexact Hz
  iintro %_ HI
  sl_exec
  sl_for (fun _ _ => histInv (F := F) d L (rowTok (toks m d) (rowOf L)) (k0_t2_loop L).trips ⟨⟩) $$ [HI]
  case region => intro k a; exact absurd (lt_of_lt_of_eq k.isLt (trips3 L)) (Nat.not_lt_zero _)
  · iexact HI
  iintro %_ HI
  sl_exec
  sl_for (countInv (F := F) d L (rowTok (toks m d) (rowOf L))) $$ [HI Hr']
  case region => intro k a; exact count_trip d L _ hlt k a
  · unfold histInv countInv
    rw [trips2]
    icases HI with ⟨Htok, Ht⟩
    isplitl [Htok]; · iexact Htok
    isplitl [Ht]; · iexact Ht
    iexists fr; isplitr
    · ipureintro; intro j hj; exact absurd hj (by omega)
    · iexact Hr'
  iintro %_ HI
  ihave HI := (count_done (F := F) d L (rowTok (toks m d) (rowOf L)) _) $$ HI
  icases HI with ⟨Htok, Ht, %g, %hg, Hr⟩
  sl_exec
  -- what the write-out left in the block
  rw [show tile_body.sl.dma0_1 g = g from rfl]
  ihave Hres := (Entails.of_eq ((pointsTo_congr (write_oRowK L (toks m d) (m (oLoc d)) g hg)).trans (pts_oRowK (F := F) d L (result m d)))) $$ Ho'
  sl_step
  isplitl [Hx' Hres]
  · isplitl [Hx']; · iexact Hx'
    iexact Hres
  isplitl [Htok Hr Ht Hbufs]
  · isplitl [Htok]; · iexists _; iexact Htok
    isplitl [Hr]; · iexists _; iexact Hr
    isplitl [Ht]; · iexists _; iexact Ht
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Task

end Cert.Proof.Tile
-- ==== Proof.Launch.lean ====
/-
  The launch: one call over sixteen tiles, each with a share of all the tokens and its own block of the result, then the
  host's copy of the result to one more axis. Every run ends with the tokens unchanged, the result at the counts and
  every semaphore back at zero.
-/
module

public import proofs.«01_k».proof.Proof.Tile
public import proofs.«01_k».proof.Proof.Gen.Pre_in_vocab

@[expose] public section

noncomputable section

namespace Cert.Proof.Launch

open Cert.KernelIdeal Cert.KernelIdeal.Gen
open Cert.Proof.Counts Cert.Proof.Trips Cert.Proof.Tile

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

/-- The launch's semaphores are distinct and its buffers are no task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state within the whole. -/
abbrev EH : Emb (URounds (GSem nD τ sig) ℕ) (MT nD τ sig (HIx 1) (Elt F) ℕ UU ℕ) := embL

/-! ## Blocks of the result, shares of the tokens -/

/-- Two blocks have no element in common. -/
theorem blk_disjoint : ∀ i ∈ (Finset.univ : Finset (Fin 16)), ∀ j ∈ (Finset.univ : Finset (Fin 16)), i ≠ j → Disjoint (blk i) (blk j) :=
  fun i _ j _ h => Finset.disjoint_left.mpr fun x hi hj =>
    h (Fin.ext ((Finset.mem_filter.mp hi).2.symm.trans (Finset.mem_filter.mp hj).2))

/-- The sixteen blocks are all of the result. -/
theorem blk_cover : (Finset.univ : Finset (Fin 16)).biUnion blk = Finset.univ := by
  ext x
  have h0 : (x 0).val < 4 := (x 0).isLt
  have h1 : (x 1).val < 4096 := (x 1).isLt
  simp only [Finset.mem_biUnion, Finset.mem_univ, true_and, iff_true]
  exact ⟨⟨4 * (x 0).val + (x 1).val / 1024, by omega⟩, Finset.mem_filter.mpr ⟨Finset.mem_univ _, rfl⟩⟩

variable (m : (ℓ : Loc nD τ sig) → Buf (Elt F) ℓ) (ρ : Dev nD → PrngReg)

abbrev rLoc (d : Dev nD) : Loc nD τ sig := (SparseCore.T d).loc main_v1

abbrev xPts (d : Dev nD) : sProp 𝕄 := xLoc d ↦{fullShare} m (xLoc d)
abbrev oPts (d : Dev nD) (f : Buf (Elt F) (oLoc d)) : sProp 𝕄 := oLoc d ↦{fullShare} f
/-- Task `i`'s share of the tokens. -/
abbrev xq (i : Fin 16) : PosShare TreeShare := Transfers.shareTok fullShare 16 i

/-- The result whole is its blocks. -/
theorem oPts_blk (d : Dev nD) (f : Buf (Elt F) (oLoc d)) :
    (oPts d f : sProp 𝕄) = bigSep Finset.univ fun i : Fin 16 => blkPts d i f := by
  show (oLoc d ↦{fullShare} f : sProp 𝕄) = _
  rw [← pointsTo_biUnion Finset.univ (ℓ := oLoc d) blk blk_disjoint, blk_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- The call takes the tokens and the result whole and hands them back, the result at the counts; each task takes its
    share of the tokens and its block and hands them back, the block at the counts. -/
def P : (K (F := F)).Pay (nD := nD) (Val := Elt F) (Name := ℕ) (U := UU) where
  st := fun q d _ => match q with | 0 => iprop(xPts m d ∗ oPts d (m (oLoc d)))
  dn := fun q d _ => match q with | 0 => iprop(xPts m d ∗ oPts d (result m d))
  go := fun q d _ i => match q with
    | 0 => iprop(xShPts m d (xq (Fin.cast nSub_zero i)) ∗ blkPts d (Fin.cast nSub_zero i) (m (oLoc d)))
  td := fun q d _ i => match q with
    | 0 => iprop(xShPts m d (xq (Fin.cast nSub_zero i)) ∗ blkPts d (Fin.cast nSub_zero i) (result m d))
  x := fun _ _ => iprop(emp)

instance P_storable : (P (F := F) m).IsStorable where
  st q d _ := match q with
    | 0 => (inferInstance : BI.Storable (upEmb : UEmb _ 𝕄) iprop(xPts m d ∗ oPts d (m (oLoc d))))
  dn q d _ := match q with
    | 0 => (inferInstance : BI.Storable (upEmb : UEmb _ 𝕄) iprop(xPts m d ∗ oPts d (result m d)))
  go q d _ i := match q with
    | 0 => (inferInstance : BI.Storable (upEmb : UEmb _ 𝕄)
      iprop(xShPts m d (xq (Fin.cast nSub_zero i)) ∗ blkPts d (Fin.cast nSub_zero i) (m (oLoc d))))
  td q d _ i := match q with
    | 0 => (inferInstance : BI.Storable (upEmb : UEmb _ 𝕄)
      iprop(xShPts m d (xq (Fin.cast nSub_zero i)) ∗ blkPts d (Fin.cast nSub_zero i) (result m d)))

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_counts_kernel (coordsV c s)
          xV (Memref.isWhole_whole _) oV (Memref.isWhole_whole _) tokV (Memref.isWhole_whole _)
          resV (Memref.isWhole_whole _) tabV (Memref.isWhole_whole _) cc0_scoped0 cc0_scoped1) ⟨⟩ c s := rfl

/-- A task's waits are its own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (by
    iintro ⟨%W', %hW', HO⟩
    iexists W'; isplitr
    · ipureintro; exact fun p hp => (hW' p hp).imp_right Or.inl
    · iexact HO)))

set_option maxRecDepth 16384 in
/-- Every tile's task, launched, does what the call asks of it. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) facts hpre (xq (Fin.cast nSub_zero i)) O W hO).trans (wp_mono frame _ _ fun _ => obl_post)

/-- The call's operands are the tasks', and the tasks' results are the call's. -/
theorem vecSplit : (K (F := F)).VecSplit' (P m) 0 := by
  intro d c
  show iprop(xPts m d ∗ oPts d (m (oLoc d))) ⊢ |={Set.univ}=> iprop(
      (bigSep Finset.univ fun i : Fin ((K (F := F)).nSub 0) =>
        iprop(xShPts m d (xq (Fin.cast nSub_zero i)) ∗ blkPts d (Fin.cast nSub_zero i) (m (oLoc d))))
      ∗ ((bigSep Finset.univ fun i : Fin ((K (F := F)).nSub 0) =>
          iprop(xShPts m d (xq (Fin.cast nSub_zero i)) ∗ blkPts d (Fin.cast nSub_zero i) (result m d)))
          -∗ iprop(xPts m d ∗ oPts d (result m d))))
  rw [bigSep_tasks (F := F) (fun i => iprop(xShPts m d (xq i) ∗ blkPts d i (m (oLoc d)))),
    bigSep_tasks (F := F) (fun i => iprop(xShPts m d (xq i) ∗ blkPts d i (result m d))), bigSep_sep', bigSep_sep', oPts_blk, oPts_blk]
  iintro ⟨Hx, Ho⟩
  ihave Hx' := (Transfers.pointsTo_toks_split (ℓ := xLoc d) (S := Finset.univ) (f := m (xLoc d)) fullShare 16) $$ Hx
  icases Hx' with ⟨Hrest, Hx⟩
  imodintro
  isplitl [Hx Ho]
  · isplitl [Hx]; · iexact Hx
    iexact Ho
  iintro ⟨Hx, Ho⟩
  isplitr [Ho]
  · iapply (Transfers.pointsTo_toks_join (ℓ := xLoc d) (S := Finset.univ) (f := m (xLoc d)) fullShare 16)
    isplitl [Hrest]; · iexact Hrest
    iexact Hx
  iexact Ho

/-! ## The ghost state at the launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program -/

/-- The result with one more axis. -/
def out (d : Dev nD) : Buf (Elt F) (rLoc d) :=
  (broadcastInDim S4x4096x1 ![0, 1] bcast_S4x4096_S4x4096x1_0_1 (counts (toks m d) : S4x4096.Idx → F .f32) : S4x4096x1.Idx → F .f32)

abbrev x' : DevRef τ sig := Proc.devRef .tc (main_arg0 : Ref sig .tc)
abbrev o' : DevRef τ sig := Proc.devRef .tc (main_v0 : Ref sig .tc)
abbrev r' : DevRef τ sig := Proc.devRef .tc (main_v1 : Ref sig .tc)
/-- The host's copy of the result. -/
abbrev opOut : HloOp τ sig (Elt F) := StableHlo.unary main_v0 main_v1
  (broadcastInDim S4x4096x1 ![0, 1] bcast_S4x4096_S4x4096x1_0_1 : (⟨S4x4096, .f32⟩ : BufTy).Contents (Elt F) → (⟨S4x4096x1, .f32⟩ : BufTy).Contents (Elt F))

/-- The host's arrays. -/
abbrev S3 : Finset (DevRef τ sig) := {x', o', r'}

omit [FloatOps F] in
theorem held_S3 (d : Dev nD) (W : Valuation τ sig (Elt F)) :
    (held (T d) S3 W : sProp 𝕄) = iprop((xLoc d ↦{fullShare} W x') ∗ (oLoc d ↦{fullShare} W o') ∗ rLoc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The host's arrays after the call: as launched, but the result at the counts. -/
def V1 (d : Dev nD) : Valuation τ sig (Elt F) := Function.update (fun b => m (d, b)) o' (result m d)

theorem V1_x (d : Dev nD) : V1 m d x' = m (xLoc d) := Function.update_of_ne (show x' ≠ o' by decide) _ _
theorem V1_o (d : Dev nD) : V1 m d o' = result m d := Function.update_self _ _ _
theorem V1_r (d : Dev nD) : V1 m d r' = m (rLoc d) := Function.update_of_ne (show r' ≠ o' by decide) _ _

/-- The tokens, and the result with its further axis: what a run leaves. -/
abbrev FIN (d : Dev nD) : sProp 𝕄 := iprop(xPts m d ∗ rLoc d ↦{fullShare} out m d)

/-- The host's arrays after its copy. -/
theorem held_V2 (d : Dev nD) :
    (held (T d) S3 ((opOut (F := F)).result (V1 m d)) : sProp 𝕄) = iprop(xPts m d ∗ oPts d (result m d) ∗ rLoc d ↦{fullShare} out m d) := by
  rw [held_S3, (opOut (F := F)).result_of_not_mem (V1 m d) (b := x') (show x' ∉ ({r'} : Finset (DevRef τ sig)) by decide),
    (opOut (F := F)).result_of_not_mem (V1 m d) (b := o') (show o' ∉ ({r'} : Finset (DevRef τ sig)) by decide), V1_x, V1_o,
    show (opOut (F := F)).result (V1 m d) r' = out m d from
      (StableHlo.unary_result main_v0 main_v1 _ _ _ (V1 m d)).trans (congrArg _ (V1_o m d))]

theorem st0_eq (d : Dev nD) : (bigSep Finset.univ fun c : Fin ((K (F := F)).nCore 0) => (P m).st 0 d c) = iprop(xPts m d ∗ oPts d (m (oLoc d))) :=
  bigSep_univ_of_subsingleton (0 : Fin 1)
theorem dn0_eq (d : Dev nD) : (bigSep Finset.univ fun c : Fin ((K (F := F)).nCore 0) => (P m).dn 0 d c) = iprop(xPts m d ∗ oPts d (result m d)) :=
  bigSep_univ_of_subsingleton (0 : Fin 1)

theorem hOut : (opOut (F := F)).bufs ⊆ S3 := show ({o', r'} : Finset (DevRef τ sig)) ⊆ S3 by decide

/-- The host program on device `d`: the call, then the copy. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho, Hr⟩, Hts, -⟩, -⟩
  iapply ((K (F := F)).wp_run (D (F := F)) 𝒱 (EH := EH) (P := P m) κ d 0) $$ [Hst Hx Ho Hr Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S3) hOut (V := V1 m d)) $$ [Hb Hx Ho Hr]
  · isplitl [Hb]; · iexact Hb
    rw [held_S3, V1_x, V1_o, V1_r]
    isplitl [Hx]; · iexact Hx
    isplitl [Ho]; · iexact Ho
    iexact Hr
  iintro ⟨Hb, Hheld⟩
  ihave Hh := (Entails.of_eq (held_V2 (F := F) m d)) $$ Hheld
  icases Hh with ⟨Hx, -, Hr⟩
  rw [wp_ret]; imodintro; imodintro
  isplitl [Hst]; · iexact Hst
  isplitr [Hb Hts]
  · isplitl [Hx]; · iexact Hx
    iexact Hr
  isplitl [Hb] <;> iassumption

/-- A final memory's result and tokens. -/
def fq (d : Dev nD) (s' : Phys nD τ sig (Elt F)) : Prop := s'.mem.mem (xLoc d) = m (xLoc d) ∧ s'.mem.mem (rLoc d) = out m d

set_option maxRecDepth 16384 in
theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := out m d)) $$ [HSI Hr]
  · isplitl [HSI] <;> iassumption
  icases H with %h2
  ipureintro; exact ⟨funext fun i => h1 i (Finset.mem_univ i), funext fun i => h2 i (Finset.mem_univ i)⟩

/-! ## The run -/

/-- What every run ends with: on each device the tokens unchanged and the result at the counts, all semaphores at zero. -/
def QC : PUnit × MemSt nD τ sig (Elt F) → Prop := fun r =>
  (∀ c : Dev nD, r.2.mem (xLoc c) = m (xLoc c) ∧ r.2.mem (rLoc c) = out m c) ∧ r.2.sem = fun _ => 0

/-- Every run of the kernel on tokens of the vocabulary ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The precondition -/

/-- A signed word from 0 to 999 is below 1000 as a natural number. -/
theorem toNat_lt_of_in_vocab (v : BitVec 32) (e : IntOp.andi (IntOp.cmpi .sge v 0#32) (IntOp.cmpi .slt v 1000#32) = 1#1) : v.toNat < 1000 := by
  simp only [IntOp.cmpi, BitVec.sle_eq_decide, BitVec.slt_eq_decide] at e
  have e' := (show ∀ p q : Bool, IntOp.andi (BitVec.ofBool p) (BitVec.ofBool q) = 1#1 → (p && q) = true by decide) _ _ e
  simp only [Bool.and_eq_true, decide_eq_true_eq, BitVec.toInt_eq_toNat_cond, BitVec.toNat_ofNat, Nat.reducePow, Nat.reduceMod] at e'
  omega

/-- A conjunction over a whole array that is true is true at every element. -/
theorem all_of_foldl {ι : Type} (x : ι → BitVec 1) : ∀ (l : List ι) (b : BitVec 1),
    l.foldl (fun r n => IntOp.andi r (x n)) b = 1#1 → b = 1#1 ∧ ∀ n ∈ l, x n = 1#1
  | [], b, h => ⟨h, fun _ hn => nomatch hn⟩
  | a :: l, b, h => by
    have ⟨h1, h2⟩ := all_of_foldl x l _ h
    have h3 := (show ∀ p q : BitVec 1, IntOp.andi p q = 1#1 → p = 1#1 ∧ q = 1#1 by decide) _ _ h1
    exact ⟨h3.1, fun n hn => (List.mem_cons.mp hn).elim (fun e => e ▸ h3.2) (h2 n)⟩

/-- The precondition — all tokens `t` with `0 ≤ t` and `t < 1000` — says so of each. -/
theorem tok_lt_of_pre {F : FTy → Type} [FloatOps F] (x : S4x4096.Idx → BitVec 32) (h : Cert.Pre_in_vocab.fn (F := F) x = fun _ => 1#1)
    (j : S4x4096.Idx) : (x j).toNat < 1000 := by
  have e := congrFun h (Shape.Idx.first Cert.Pre_in_vocab.Gen.h_S_)
  have := (all_of_foldl (fun n => _) _ _ e).2 (S4x4096.rowMajor j) (List.mem_filter.mpr ⟨List.mem_finRange _, decide_eq_true (Subsingleton.elim _ _)⟩)
  rw [Equiv.symm_apply_apply] at this
  exact toNat_lt_of_in_vocab _ this

end Cert.Proof.Launch

end
-- ==== Proof.Reference.lean ====
/-
  The reference: the one-hot rows, their running sums along a row, and of these the entry each token names. On tokens of
  the vocabulary, over the reals, its result is the number of times the token has occurred in its row so far.
-/
module

public import proofs.«01_k».proof.Proof.Tile
public import proofs.«01_k».proof.Proof.Gen.ReferenceIdeal
public import proofs.«01_k».proof.Proof.Gen.ReferenceIdeal.Run
public import Idealize.ShloMosaic.PureOps.Ideal
public import Idealize.ShloMosaic.Lib.Routing.Ops

@[expose] public section

noncomputable section

namespace Cert.Proof.Reference

open Cert.ReferenceIdeal Cert.ReferenceIdeal.Gen
open Cert.Proof.Counts Cert.Proof.Trips Cert.Proof.Tile
open Idealize.ShloMosaic Idealize.ShloMosaic.TcCoe Idealize.SL.Sem

/-- A token's place in the array of tokens. -/
abbrev at2 (b : Fin 4) (p : Fin 4096) : S4x4096.Idx := Shape.pair (d := ![4, 4096]) b p

section Words

variable (x : S4x4096.Idx → BitVec 32)

/-- The tokens with one more axis. -/
abbrev tok3 : IVec S4x4096x1 32 := broadcastInDim S4x4096x1 ![0, 1] bcast_S4x4096_S4x4096x1_0_1 x

/-- The tokens as the reference looks them up: a negative one counts from the vocabulary's end. -/
abbrev index : IVec S4x4096x1x1 32 :=
  shapeCast _ (select (cmpi .slt (tok3 x) (broadcastInDim S4x4096x1 ![] bcast_S_S4x4096x1 (constantI S_ 32 0#32)))
    (addi (tok3 x) (broadcastInDim S4x4096x1 ![] bcast_S_S4x4096x1 (constantI S_ 32 1000#32))) (tok3 x)) shapeCasts_S4x4096x1_S4x4096x1x1

/-- Where the looked-up token is from 0 to 999. -/
abbrev within : IVec S4x4096x1 1 :=
  Host.reduce IntOp.andi (andi (cmpi .sge (index x) (broadcastInDim S4x4096x1x1 ![] bcast_S_S4x4096x1x1 (constantI S_ 32 0#32)))
    (cmpi .sle (index x) (broadcastInDim S4x4096x1x1 ![0, 1, 2, 3] bcast_S1x1x1x1_S4x4096x1x1_0_1_2_3
      (broadcastInDim S1x1x1x1 ![3] bcast_S1_S1x1x1x1_3 (constantI S1 32 999#32))))) (constantI S_ 1 1#1) reducesTo_S4x4096x1x1_S4x4096x1_d3 h_S_

/-- Where the token is the vocabulary's entry. -/
abbrev hot : IVec S4x4096x1000 1 :=
  cmpi .eq (broadcastInDim S4x4096x1000 ![0, 1, 2] bcast_S4x4096x1_S4x4096x1000_0_1_2 (tok3 x))
    (broadcastInDim S4x4096x1000 ![0, 1, 2] bcast_S1x1x1000_S4x4096x1000_0_1_2 (iotaInDim S1x1x1000 32 2))

/-- The further axis repeats nothing. -/
theorem tok3_at (j : S4x4096x1.Idx) : tok3 x j = x (at2 (j 0) (j 1)) := by
  unfold tok3 broadcastInDim
  refine congrArg x (funext fun a => ?_)
  match a with
  | 0 => rfl
  | 1 => rfl

/-- Repeating over the vocabulary reads the one entry there is. -/
theorem wide_at {α : Type} (f : S4x4096x1.Idx → α) (i : S4x4096x1000.Idx) :
    broadcastInDim S4x4096x1000 ![0, 1, 2] bcast_S4x4096x1_S4x4096x1000_0_1_2 f i
      = f (fun a => match a with | 0 => i 0 | 1 => i 1 | 2 => (0 : Fin 1)) := by
  unfold broadcastInDim
  refine congrArg f (funext fun a => ?_)
  match a with
  | 0 => rfl
  | 1 => rfl
  | 2 => rfl

/-- A word below 1000 is not negative. -/
theorem not_neg (v : BitVec 32) (h : v.toNat < 1000) : IntOp.cmpi .slt v 0#32 = 0#1 := by
  have e : v.slt 0#32 = false := by
    rw [BitVec.slt_eq_decide, decide_eq_false_iff_not]
    simp only [BitVec.toInt_eq_toNat_cond, BitVec.toNat_ofNat]
    omega
  show BitVec.ofBool (v.slt 0#32) = 0#1
  rw [e]; rfl

/-- A word below 1000 is at least 0 and at most 999. -/
theorem in_bounds (v : BitVec 32) (h : v.toNat < 1000) : IntOp.andi (IntOp.cmpi .sge v 0#32) (IntOp.cmpi .sle v 999#32) = 1#1 := by
  have e1 : (0#32).sle v = true := by
    rw [BitVec.sle_eq_decide, decide_eq_true_eq]
    simp only [BitVec.toInt_eq_toNat_cond, BitVec.toNat_ofNat]
    omega
  have e2 : v.sle 999#32 = true := by
    rw [BitVec.sle_eq_decide, decide_eq_true_eq]
    simp only [BitVec.toInt_eq_toNat_cond, BitVec.toNat_ofNat]
    omega
  show IntOp.andi (BitVec.ofBool ((0#32).sle v)) (BitVec.ofBool (v.sle 999#32)) = 1#1
  rw [e1, e2]; decide

variable (hx : ∀ j, (x j).toNat < 1000)
include hx

/-- A token of the vocabulary is looked up as itself. -/
theorem index_at (j : S4x4096x1x1.Idx) : index x j = x (at2 (j 0) (j 1)) := by
  have e : Shape.reshapeEquiv shapeCasts_S4x4096x1_S4x4096x1x1 j = (fun a => match a with | 0 => j 0 | 1 => j 1 | 2 => (0 : Fin 1) : S4x4096x1.Idx) := by
    apply Shape.reshapeEquiv_eq_of_rowMajor
    have h2 : (j 2).val < 1 := (j 2).isLt
    have h3 : (j 3).val < 1 := (j 3).isLt
    refine (Shape.rowMajor_val_three (d := ![4, 4096, 1]) _).trans (Eq.trans ?_ (Shape.rowMajor_val_four (d := ![4, 4096, 1, 1]) j).symm)
    show ((j 0).val * 4096 + (j 1).val) * 1 + 0 = (((j 0).val * 4096 + (j 1).val) * 1 + (j 2).val) * 1 + (j 3).val
    omega
  show (if IntOp.cmpi .slt (tok3 x (Shape.reshapeEquiv shapeCasts_S4x4096x1_S4x4096x1x1 j)) 0#32 = 1#1
      then _ else tok3 x (Shape.reshapeEquiv shapeCasts_S4x4096x1_S4x4096x1x1 j)) = _
  rw [e, tok3_at, not_neg _ (hx _), if_neg (by decide)]

/-- Every token of the vocabulary is from 0 to 999. -/
theorem within_at (j : S4x4096x1.Idx) : within x j = 1#1 := by
  have key : ∀ (l : List (Fin S4x4096x1x1.numel)), l.foldl (fun r n => IntOp.andi r
      (IntOp.andi (IntOp.cmpi .sge (index x (S4x4096x1x1.rowMajor.symm n)) 0#32) (IntOp.cmpi .sle (index x (S4x4096x1x1.rowMajor.symm n)) 999#32))) 1#1 = 1#1 := by
    intro l
    induction l with
    | nil => rfl
    | cons n l ih =>
      rw [List.foldl_cons, index_at x hx, in_bounds _ (hx _)]
      exact ih
  exact key _

omit hx in
/-- The one-hot rows: the entry is 1 where the token is it. -/
theorem hot_at (i : S4x4096x1000.Idx) : hot x i = if x (at2 (i 0) (i 1)) = BitVec.ofNat 32 (i 2).val then 1#1 else 0#1 := by
  have e1 : broadcastInDim S4x4096x1000 ![0, 1, 2] bcast_S4x4096x1_S4x4096x1000_0_1_2 (tok3 x) i = x (at2 (i 0) (i 1)) :=
    (wide_at (tok3 x) i).trans (tok3_at x _)
  have e2 : broadcastInDim S4x4096x1000 ![0, 1, 2] bcast_S1x1x1000_S4x4096x1000_0_1_2 (iotaInDim S1x1x1000 32 2) i = BitVec.ofNat 32 (i 2).val := rfl
  show BitVec.ofBool (_ == _) = _
  rw [e1, e2]
  by_cases h : x (at2 (i 0) (i 1)) = BitVec.ofNat 32 (i 2).val
  · rw [if_pos h, beq_iff_eq.mpr h]; rfl
  · rw [if_neg h, beq_eq_false_iff_ne.mpr h]; rfl

end Words

/-! ## The looked-up entry -/

section Gather

variable (x : S4x4096.Idx → BitVec 32) (hx : ∀ j, (x j).toNat < 1000)

/-- The entry of the running sums that a token names. -/
abbrev at3 (b : Fin 4) (p : Fin 4096) (v : Fin 1000) : S4x4096x1000.Idx := fun a => match a with | 0 => b | 1 => p | 2 => v

/-- How the reference's lookup numbers its dimensions: rows and positions are shared, the vocabulary is looked up. -/
abbrev dims : GatherDims S4x4096x1000 S4x4096x1x1 S4x4096x1 := gather_S4x4096x1000_S4x4096x1x1_S4x4096x1_n_2_01_01_2_3_111

/-- Looking up reads, at each token, the token's own row, position and vocabulary entry. -/
theorem gather_at {α : Type} (f : S4x4096x1000.Idx → α) (j : S4x4096x1.Idx) :
    Host.gather dims f (index x) j
      = f (at3 (j 0) (j 1) ⟨(x (at2 (j 0) (j 1))).toNat, hx _⟩) := by
  unfold Host.gather
  refine congrArg f (funext fun a => Fin.ext ?_)
  match a with
  | 0 =>
    show dims.start j (index x) (0 : Fin 3) + dims.batchCoord j (0 : Fin 3) + dims.offCoord j (0 : Fin 3) = (j 0).val
    rw [show dims.start j (index x) (0 : Fin 3) = 0 from rfl,
      show dims.offCoord j (0 : Fin 3) = 0 from rfl,
      show dims.batchCoord j (0 : Fin 3) = (j 0).val from rfl]
    omega
  | 1 =>
    show dims.start j (index x) (1 : Fin 3) + dims.batchCoord j (1 : Fin 3) + dims.offCoord j (1 : Fin 3) = (j 1).val
    rw [show dims.start j (index x) (1 : Fin 3) = 0 from rfl,
      show dims.offCoord j (1 : Fin 3) = 0 from rfl,
      show dims.batchCoord j (1 : Fin 3) = (j 1).val from rfl]
    omega
  | 2 =>
    show dims.start j (index x) (2 : Fin 3) + dims.batchCoord j (2 : Fin 3) + dims.offCoord j (2 : Fin 3) = (x (at2 (j 0) (j 1))).toNat
    rw [show dims.start j (index x) (2 : Fin 3)
        = min (index x (dims.siIdx j ⟨0, Nat.one_pos⟩)).toInt.toNat 999 from rfl,
      show dims.offCoord j (2 : Fin 3) = 0 from rfl,
      show dims.batchCoord j (2 : Fin 3) = 0 from rfl, index_at x hx]
    show min (x (at2 (j 0) (j 1))).toInt.toNat 999 + 0 + 0 = _
    have h := hx (at2 (j 0) (j 1))
    rw [BitVec.toInt_eq_toNat_cond]
    omega

end Gather

/-! ## The running sums -/

/-- Adding up reals that hold naturals, from one that holds a natural, holds the naturals' sum. -/
theorem foldl_add_nat {ι : Type} (g : ι → EReal) (f : ι → ℕ) : ∀ (l : List ι), (∀ a ∈ l, g a = ((f a : ℝ) : EReal)) → ∀ (v : EReal) (z : ℕ), v = ((z : ℝ) : EReal) →
    l.foldl (fun r a => r + g a) v = (((z + (l.map f).sum : ℕ) : ℝ) : EReal)
  | [], _, v, z, hv => by simpa using hv
  | a :: l, hg, v, z, hv => by
    rw [List.foldl_cons, foldl_add_nat g f l (fun b hb => hg b (List.mem_cons_of_mem _ hb)) _ (z + f a) (by
      rw [hv, hg a List.mem_cons_self, Nat.cast_add, EReal.coe_add]), List.map_cons, List.sum_cons, Nat.add_assoc]

/-- Adding up "is it `v`" over a prefix's positions in order counts `v` in the prefix. -/
theorem sum_eq_cnt (tok : ℕ → BitVec 32) (v : BitVec 32) (n : ℕ) : ((List.range n).map fun p => if tok p = v then 1 else 0).sum = cnt tok n v := by
  induction n with
  | zero => rfl
  | succ n ih => rw [List.range_succ, List.map_append, List.sum_append, ih, cnt_succ]; simp

/-- The window's shape: a whole row of positions, one row and one vocabulary entry. -/
abbrev Win : Shape := ⟨3, ![1, 4096, 1]⟩

theorem win_numel : Win.numel = 4096 := by
  show ∏ a : Fin 3, (![1, 4096, 1] : Fin 3 → ℕ) a = 4096
  rw [Fin.prod_univ_three]; rfl

/-- The window's position number `n` is `n` along the row. -/
theorem win_at (n : Fin Win.numel) : (Win.rowMajor.symm n 0).val = 0 ∧ (Win.rowMajor.symm n 1).val = n.val ∧ (Win.rowMajor.symm n 2).val = 0 := by
  have h0 : (Win.rowMajor.symm n 0).val < 1 := (Win.rowMajor.symm n 0).isLt
  have h2 : (Win.rowMajor.symm n 2).val < 1 := (Win.rowMajor.symm n 2).isLt
  have h : (Win.rowMajor (Win.rowMajor.symm n)).val
      = ((Win.rowMajor.symm n 0).val * 4096 + (Win.rowMajor.symm n 1).val) * 1 + (Win.rowMajor.symm n 2).val :=
    Shape.rowMajor_val_three (d := ![1, 4096, 1]) _
  rw [Equiv.apply_symm_apply] at h
  omega

/-- The running sums of the one-hot rows. -/
abbrev sums (x : S4x4096.Idx → BitVec 32) : FVec Ideal S4x4096x1000 .f32 :=
  Host.reduceWindowAdd ![1, 4096, 1] ![1, 1, 1] ![0, 4095, 0] ![0, 0, 0] (uitofp .f32 (hot x)) (broadcastInDim S_ ![] bcast_S_S_ (constant S_ .f32 0x00000000#32))
    reduceWindows_S4x4096x1000_S4x4096x1000_w1s1p0_0_w4096s1p4095_0_w1s1p0_0 h_S_

/-- A running sum is the number of times the vocabulary's entry has occurred in the row so far. -/
theorem sums_at (x : S4x4096.Idx → BitVec 32) (b : Fin 4) (p : Fin 4096) (v : Fin 1000) :
    sums x (at3 b p v) = ((cnt (rowTok x b.val) (p.val + 1) (BitVec.ofNat 32 v.val) : ℝ) : EReal) := by
  have hz : (broadcastInDim S_ ![] bcast_S_S_ (constant S_ .f32 0x00000000#32) : FVec Ideal S_ .f32) (Shape.Idx.first h_S_) = (((0 : ℕ) : ℝ) : EReal) := by
    show Ideal.ofBits .f32 0x00000000#32 = _
    simp [Ideal.ofBits, Ideal.ieee]
  have hp := p.isLt
  unfold sums Host.reduceWindowAdd
  rw [Ideal.hostReduceWindowAdd_def]
  unfold Ideal.hostReduceWindowAdd Host.reduceWindow
  refine (foldl_add_nat _ (fun n => if 4095 ≤ p.val + n.val then (if rowTok x b.val (p.val + n.val - 4095) = BitVec.ofNat 32 v.val then 1 else 0) else 0)
    _ (fun n _ => ?_) _ 0 hz).trans ?_
  · have ⟨w0, w1, w2⟩ := win_at n
    have hn : n.val < 4096 := lt_of_lt_of_eq n.isLt win_numel
    have c0 : b.val * 1 + (Win.rowMajor.symm n 0).val = b.val := by omega
    have c1 : p.val * 1 + (Win.rowMajor.symm n 1).val = p.val + n.val := by omega
    have c2 : v.val * 1 + (Win.rowMajor.symm n 2).val = v.val := by omega
    dsimp only
    split
    · next hin =>
      have h1 : 4095 ≤ p.val * 1 + (Win.rowMajor.symm n 1).val ∧ p.val * 1 + (Win.rowMajor.symm n 1).val - 4095 < 4096 := hin 1
      rw [c1] at h1
      rw [if_pos h1.1]
      have hrow : rowTok x b.val (p.val + n.val - 4095) = x (at2 b ⟨p.val + n.val - 4095, h1.2⟩) := dif_pos ⟨b.isLt, h1.2⟩
      have hi : ∀ i : S4x4096x1000.Idx, (i 0).val = b.val → (i 1).val = p.val + n.val - 4095 → (i 2).val = v.val →
          uitofp (F := Ideal) .f32 (hot x) i = (((if rowTok x b.val (p.val + n.val - 4095) = BitVec.ofNat 32 v.val then 1 else 0 : ℕ) : ℝ) : EReal) := by
        intro i i0 i1 i2
        show (((hot x i).toNat : ℝ) : EReal) = _
        rw [hot_at, hrow, i2, show at2 (i 0) (i 1) = at2 b ⟨p.val + n.val - 4095, h1.2⟩ from
          congrArg₂ at2 (Fin.ext i0) (Fin.ext i1)]
        split <;> rfl
      exact hi _ (show b.val * 1 + (Win.rowMajor.symm n 0).val - 0 = _ by rw [c0]; rfl)
        (show p.val * 1 + (Win.rowMajor.symm n 1).val - 4095 = _ by rw [c1])
        (show v.val * 1 + (Win.rowMajor.symm n 2).val - 0 = _ by rw [c2]; rfl)
    · next hin =>
      rw [if_neg fun hle => hin fun a => by
        match a with
        | 0 =>
          show 0 ≤ b.val * 1 + (Win.rowMajor.symm n 0).val ∧ b.val * 1 + (Win.rowMajor.symm n 0).val - 0 < 4
          have := b.isLt; omega
        | 1 =>
          show 4095 ≤ p.val * 1 + (Win.rowMajor.symm n 1).val ∧ p.val * 1 + (Win.rowMajor.symm n 1).val - 4095 < 4096
          omega
        | 2 =>
          show 0 ≤ v.val * 1 + (Win.rowMajor.symm n 2).val ∧ v.val * 1 + (Win.rowMajor.symm n 2).val - 0 < 1000
          have := v.isLt; omega]
      exact hz
  · rw [Nat.zero_add]
    refine congrArg (fun k : ℕ => ((k : ℝ) : EReal)) ?_
    rw [Routing.map_finRange_val _ (fun w => if 4095 ≤ p.val + w then (if rowTok x b.val (p.val + w - 4095) = BitVec.ofNat 32 v.val then 1 else 0) else 0)]
    refine Eq.trans (congrArg (fun M => ((List.range M).map _).sum) win_numel) ?_
    exact (Routing.sum_window (fun q => if rowTok x b.val q = BitVec.ofNat 32 v.val then 1 else 0) 4095 p.val (by omega)).trans (sum_eq_cnt _ _ _)

/-! ## The result -/

/-- Over the reals, a count of at most 4096 is itself. -/
theorem ofCount_ideal (c : ℕ) (h : c ≤ 4096) : ofCount Ideal c = ((c : ℝ) : EReal) := by
  show (((BitVec.ofNat 32 c).toInt : ℝ) : EReal) = _
  rw [show (BitVec.ofNat 32 c).toInt = (c : ℤ) by rw [BitVec.toInt_eq_toNat_cond, BitVec.toNat_ofNat]; omega]
  rfl

/-- The reference's result from its tokens. -/
abbrev value (x : S4x4096.Idx → BitVec 32) : FVec Ideal S4x4096x1 .f32 :=
  select (within x) (Host.gather gather_S4x4096x1000_S4x4096x1x1_S4x4096x1_n_2_01_01_2_3_111 (sums x) (index x))
    (broadcastInDim S4x4096x1 ![] bcast_S_S4x4096x1 (constant S_ .f32 0x7FC00000#32))

/-- On tokens of the vocabulary the reference's result is the counts, with one more axis. -/
theorem value_eq (x : S4x4096.Idx → BitVec 32) (hx : ∀ j, (x j).toNat < 1000) :
    value x = broadcastInDim S4x4096x1 ![0, 1] bcast_S4x4096_S4x4096x1_0_1 (counts (F := Ideal) x) := by
  funext j
  unfold value select
  rw [within_at x hx j, gather_at x hx]
  refine (if_pos rfl).trans ((sums_at x _ _ _).trans ?_)
  have hj : (j 1).val < 4096 := (j 1).isLt
  have hrow : rowTok x (j 0).val (j 1).val = x (at2 (j 0) (j 1)) := dif_pos ⟨(j 0).isLt, (j 1).isLt⟩
  have e : BitVec.ofNat 32 (x (at2 (j 0) (j 1))).toNat = x (at2 (j 0) (j 1)) := BitVec.ofNat_toNat _ _ |>.trans (BitVec.setWidth_eq _)
  show _ = ofCount Ideal (cnt (rowTok x (j 0).val) ((j 1).val + 1) (rowTok x (j 0).val (j 1).val))
  rw [ofCount_ideal _ ((cnt_le _ _ _).trans (by omega)), hrow]
  show ((cnt (rowTok x (j 0).val) ((j 1).val + 1) (BitVec.ofNat 32 (x (at2 (j 0) (j 1))).toNat) : ℝ) : EReal) = _
  rw [e]

/-- Every run of the reference leaves the tokens unchanged and the result at `value` of them. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = value (m ((c.tc : Thread nD τ).loc main_arg0))
      ∧ r.2.mem ((c.tc : Thread nD τ).loc main_arg0) = m ((c.tc : Thread nD τ).loc main_arg0) :=
  Cert.ReferenceIdeal.Value.run (F := Ideal) m ρ

end Cert.Proof.Reference

end
-- ==== Proof.lean ====
/-
  The certificate. The kernel counts, at every position of a row of tokens, how often the token there has occurred in the
  row so far: sixteen tiles, each over one row, count the tokens before its quarter in a histogram, then count the quarter's
  own. `Proof/Counts.lean` is the counting; `Proof/Trips.lean` the trips of the tile's loops; `Proof/Tile.lean` the tile;
  `Proof/Launch.lean` the call and the host's copy of its result, for any reading of floats; `Proof/Reference.lean` the
  reference's result over the reals. Here each claim is read off those two runs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocab
public import proofs.«01_k».proof.Proof.Launch
public import proofs.«01_k».proof.Proof.Reference
public import Idealize.ShloMosaic.Lib.Quiescent

@[expose] public section

noncomputable section

namespace Cert.Proof

open Idealize.ShloMosaic Idealize.SL.Sem

/-- The kernel's frame, on bits: the one run with its result dropped. -/
theorem frame_kernel : Cert.quiescent_Kernel := fun m ρ h =>
  (θ_run Cert.KernelIdeal.defs _ _).mono (fun _ h => ⟨fun c => (h.1 c).1, h.2⟩)
    (Launch.run_main (F := Bits) m ρ fun d j => Launch.tok_lt_of_pre _ (h d) j)

/-- The idealized kernel's frame: the same run over the reals. -/
theorem frame_kernelIdeal : Cert.quiescent_KernelIdeal := fun m ρ h =>
  (θ_run Cert.KernelIdeal.defs _ _).mono (fun _ h => ⟨fun c => (h.1 c).1, h.2⟩)
    (Launch.run_main (F := Ideal) m ρ fun d j => Launch.tok_lt_of_pre _ (h d) j)

/-- The reference's frame; it has no semaphore. -/
theorem frame_reference : Cert.quiescent_ReferenceIdeal := fun m ρ _ =>
  (θ_run Cert.ReferenceIdeal.defs _ _).mono (fun r h => ⟨fun c => (h c).2, sem_eq_zero_of_no_sems rfl r.2⟩) (Reference.run m ρ)

/-- Over the reals the kernel and the reference end with one result, the counts. -/
theorem algebraic : Cert.algebraic_KernelIdeal_ReferenceIdeal := fun m ρ m' ρ' h hm =>
  have hpre : Tile.PreOK m := fun d j => Launch.tok_lt_of_pre _ (h d) j
  ⟨fun c => Launch.out m c,
    (θ_run Cert.KernelIdeal.defs _ _).mono (fun _ h c => ⟨(h.1 c).2, (h.1 c).1⟩) (Launch.run_main (F := Ideal) m ρ hpre),
    (θ_run Cert.ReferenceIdeal.defs _ _).mono (fun _ h c => ⟨(h c).1.trans ((congrArg Reference.value (hm c)).trans
      (Reference.value_eq _ (hpre c))), (h c).2⟩) (Reference.run m' ρ')⟩

theorem claim : Cert.Claim :=
  ⟨Cert.Kernel.Gen.facts, Cert.KernelIdeal.Gen.facts, Cert.ReferenceIdeal.Gen.facts, Cert.Pre_in_vocab.Gen.facts,
    frame_kernel, frame_kernelIdeal, frame_reference, fun m ρ _ => frame_reference m ρ trivial, trivial, algebraic⟩

end Cert.Proof

end
